-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.blockN ⟨2, ![4096, 1024]⟩ ⟨2, ![8192, 2048]⟩ (Layout.meshBlock [2, 2] ![[0], [1]] c) (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = Layout.blockN ⟨2, ![4096, 1]⟩ ⟨2, ![8192, 1]⟩ (Layout.meshBlock [2, 2] ![[0], []] c) v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v1) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1024 : Shape := ⟨2, ![4096, 1024]⟩
abbrev S8x512 : Shape := ⟨2, ![8, 512]⟩
abbrev S_ : Shape := ⟨0, ![]⟩
abbrev S4096x128 : Shape := ⟨2, ![4096, 128]⟩
abbrev S512x128 : Shape := ⟨2, ![512, 128]⟩
abbrev S128x512 : Shape := ⟨2, ![128, 512]⟩
abbrev S512 : Shape := ⟨1, ![512]⟩
abbrev S1x512 : Shape := ⟨2, ![1, 512]⟩
abbrev S4096x1 : Shape := ⟨2, ![4096, 1]⟩

abbrev nBuf : Space → Nat
  | .hbm => 3
  | .vmem => 4
  | .smem => 0
  | _ => 0

abbrev bufTy : (tb : Table) → Fin (tcTables nBuf tb) → BufTy
  | .hbm, ⟨0, _⟩ => ⟨S4096x1024, .f32⟩
  | .hbm, ⟨1, _⟩ => ⟨S8x512, .f32⟩
  | .hbm, ⟨2, _⟩ => ⟨S4096x1, .f32⟩
  | .local _ .vmem, ⟨0, _⟩ => ⟨S4096x1024, .f32⟩
  | .local _ .vmem, ⟨1, _⟩ => ⟨S8x512, .f32⟩
  | .local _ .vmem, ⟨2, _⟩ => ⟨S8x512, .f32⟩
  | .local _ .vmem, ⟨3, _⟩ => ⟨S8x512, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 1 → Bool
  | ⟨0, _⟩ => false
  | _ => false

abbrev dmaSemScoped : Fin 4 → Bool
  | ⟨0, _⟩ => true
  | ⟨1, _⟩ => true
  | ⟨2, _⟩ => true
  | ⟨3, _⟩ => true
  | _ => false

abbrev sig : RefSig :=
  (ofTc nBuf bufTy 1 4 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev main_v2 : Ref sig .tc := ⟨.hbm, 2, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_scratch1 : Ref sig .tc := ⟨.vmem, 3, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_4 : BitVec 32 := 2#32
  let v8 : BitVec 32 := Scalar.muli v2 c2_i32_4
  let v9 : BitVec 32 := Scalar.addi c0_i32 v8
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_5 : BitVec 32 := 1#32
  let v10 : BitVec 32 := Scalar.muli v6 c1_i32_5
  let v11 : BitVec 32 := Scalar.addi v9 v10
  v11.toNat
def k0_dev2 (d0 : Dev nD) : Nat :=
  let c0_i32_32 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_31 : BitVec 32 := 2#32
  let v91 : BitVec 32 := Scalar.muli v2 c2_i32_31
  let v92 : BitVec 32 := Scalar.addi c0_i32_32 v91
  let c1_i32_2 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v6 : BitVec 32 := Scalar.subi c1_i32_2 v5
  let c1_i32_33 : BitVec 32 := 1#32
  let v93 : BitVec 32 := Scalar.muli v6 c1_i32_33
  let v94 : BitVec 32 := Scalar.addi v92 v93
  v94.toNat
abbrev stage0_0 : Fin 1 → Memref sig .tc .vmem S4096x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S8192x2048 : Shape := ⟨2, ![8192, 2048]⟩
abbrev S_ : Shape := ⟨0, ![]⟩
abbrev S8192 : Shape := ⟨1, ![8192]⟩
abbrev S8192x1 : Shape := ⟨2, ![8192, 1]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S_, .f32⟩
  | .hbm, ⟨2, _⟩ => ⟨S8192, .f32⟩
  | .hbm, ⟨3, _⟩ => ⟨S8192x1, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Proof.SwapKernelIdeal.lean ====
/-
  The row swap of `KernelIdeal`: which cells the two devices of a mesh row talk over, what each credit
  hands over, and what the packed block of row maxima is that travels.

  Devices are numbered `2 * row + column`; the two devices of a row are mates. Each device sends its mate
  one block, of shape 8 x 512, that holds the maximum of each of its 4096 rows.
-/
module

public import proofs.«01_k».proof.Proof.Gen.KernelIdeal
public import proofs.«01_k».proof.Proof.Gen.KernelIdeal.Skeleton
public import proofs.«01_k».proof.Proof.Gen.KernelIdeal.Points
public import proofs.«01_k».proof.Proof.Gen.KernelIdeal.Launch
public import Idealize.ShloMosaic.Lib.StableHlo
public import Idealize.ShloMosaic.Lib.Tactic
public import Idealize.ShloMosaic.Lib.Writes
public import Idealize.ShloMosaic.Lib.Ring
public import Idealize.ShloMosaic.Lib.Pipeline.RegionTalk

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

/-- Two copies of the rounds' ghost state: one for the block pipeline, one for the talk between mates. -/
abbrev UU : Type := UR sig nD τ × UR sig nD τ

local notation "𝕄" => MT nD τ sig Unit (Elt F) ℕ UU ℕ

/-- The pipeline's copy. -/
abbrev EP : Emb (UR sig nD τ) (MT nD τ sig Unit (Elt F) ℕ UU ℕ) := embL
/-- The talk's copy. -/
abbrev ER : Emb (UR sig nD τ) (MT nD τ sig Unit (Elt F) ℕ UU ℕ) := embR

variable (m : (ℓ : Loc nD τ sig) → Buf (Elt F) ℓ)

/-! ## Mates -/

/-- The other device of the same mesh row. -/
def mate (c : Dev nD) : Dev nD := ⟨2 * (c.val / 2) + 1 - c.val % 2, by have h : c.val < 4 := c.isLt; show _ < 4; omega⟩

/-- The mate of the mate is the device itself. -/
theorem mate_mate (c : Dev nD) : mate (mate c) = c := by revert c; decide

/-- Being mates, as a permutation of the devices. -/
def mates : Dev nD ≃ Dev nD := ⟨mate, mate, mate_mate, mate_mate⟩

/-- The device the barrier signal names is the mate; -/
theorem signalled_eq (c : Dev nD) : (⟨k0_dev1 c, k0_dev1_lt c⟩ : Dev nD) = mate c := by
  revert c; decide
/-- so is the device the copy names. -/
theorem copied_to_eq (c : Dev nD) : (⟨k0_dev2 c, k0_dev2_lt c⟩ : Dev nD) = mate c := by
  revert c; decide

/-! ## The packed block -/

/-- The columns `[o, o + 128)` of a staged input block. -/
def strip (x : (cc0_stg0_0 : Ref sig .tc).ty.Contents (Elt F)) (o : ℕ) (h : ∀ a, (![0, o] : Fin 2 → ℕ) a + S4096x128.size a ≤ S4096x1024.size a) :
    Vec F S4096x128 .f32 :=
  (Memref.whole cc0_stg0_0 : Memref sig .tc .vmem S4096x1024 .f32).view.readAt (Elt F) (Rect.unit (s := S4096x1024) ![0, o] S4096x128.size h).toLoadRect x

/-- The maximum of the first seven strips, lane by lane. -/
def seven (x : (cc0_stg0_0 : Ref sig .tc).ty.Contents (Elt F)) : FVec F S4096x128 .f32 :=
  k0_pay1 (strip x 0 inb_S4096x1024_S4096x128_0_0) (strip x 128 inb_S4096x1024_S4096x128_0_128) (strip x 256 inb_S4096x1024_S4096x128_0_256)
    (strip x 384 inb_S4096x1024_S4096x128_0_384) (strip x 512 inb_S4096x1024_S4096x128_0_512) (strip x 640 inb_S4096x1024_S4096x128_0_640)
    (strip x 768 inb_S4096x1024_S4096x128_0_768)

/-- The eighth strip. -/
def eighth (x : (cc0_stg0_0 : Ref sig .tc).ty.Contents (Elt F)) : Vec F S4096x128 .f32 := strip x 896 inb_S4096x1024_S4096x128_0_896

/-- What the body stores in row `j` of the packed block. -/
def packedRow (x : (cc0_stg0_0 : Ref sig .tc).ty.Contents (Elt F)) : Fin 8 → FVec F S1x512 .f32
  | 0 => k0_pay3 (seven x) (eighth x)
  | 1 => k0_pay4 (seven x) (eighth x)
  | 2 => k0_pay5 (seven x) (eighth x)
  | 3 => k0_pay6 (seven x) (eighth x)
  | 4 => k0_pay7 (seven x) (eighth x)
  | 5 => k0_pay9 (k0_pay8 (seven x) (eighth x))
  | 6 => k0_pay10 (k0_pay2 (seven x) (eighth x))
  | 7 => k0_pay11 (k0_pay2 (seven x) (eighth x))

/-- A place of the packed block, as a place of its row. -/
def inRow (y : S8x512.Idx) : S1x512.Idx := fun | 0 => (0 : Fin 1) | 1 => (y 1 : Fin 512)

/-- The packed block: every row maximum of the staged input block `x`, 512 to a row. -/
def packed (x : (cc0_stg0_0 : Ref sig .tc).ty.Contents (Elt F)) : S8x512.Idx → Elt F .f32 := fun y => packedRow x (y 0) (inRow y)

/-- The rectangle of row `j`. -/
abbrev rowRect (j : ℕ) (h : ∀ a, (![j, 0] : Fin 2 → ℕ) a + S1x512.size a ≤ S8x512.size a) : Rect S8x512 := Rect.unit (s := S8x512) ![j, 0] S1x512.size h

/-- Row `j` lies inside the block. -/
theorem row_inside (j : Fin 8) : ∀ a, (![j.val, 0] : Fin 2 → ℕ) a + S1x512.size a ≤ S8x512.size a := by
  revert j; decide

/-- The body's eight row stores, the last first. -/
def rowStores (x : (cc0_stg0_0 : Ref sig .tc).ty.Contents (Elt F)) : List (View.Piece (Elt F) S8x512 .f32) :=
  ([7, 6, 5, 4, 3, 2, 1, 0] : List (Fin 8)).map fun j => ⟨rowRect j.val (row_inside j), packedRow x j⟩

/-- A store of row `j` agrees with the packed block. -/
theorem packed_at_row (x : (cc0_stg0_0 : Ref sig .tc).ty.Contents (Elt F)) (j : Fin 8)
    (h : ∀ a, (![j.val, 0] : Fin 2 → ℕ) a + S1x512.size a ≤ S8x512.size a) (z : S1x512.Idx) :
    packedRow x j z = packed x ((rowRect j.val h).emb z) := by
  have hz : (z 0).val = 0 := by have := (z 0).isLt; change (z 0).val < 1 at this; omega
  have h0 : ((rowRect j.val h).emb z) 0 = j := Fin.ext (by
    show (![j.val, 0] : Fin 2 → ℕ) 0 + 1 * (z 0).val = j.val; rw [hz]; rfl)
  have h1 : inRow ((rowRect j.val h).emb z) = z := by
    funext a; refine Fin.ext ?_
    match a with
    | 0 => exact hz.symm
    | 1 => show 0 + 1 * (z 1).val = (z 1).val; omega
  unfold packed
  rw [h1]
  exact (congrArg (fun i => packedRow x i z) h0).symm

/-- The eight rows cover the block. -/
theorem rows_cover (x : (cc0_stg0_0 : Ref sig .tc).ty.Contents (Elt F)) (y : S8x512.Idx) : ∃ p ∈ rowStores x, y ∈ p.1.set := by
  refine ⟨⟨rowRect (y 0).val (row_inside (y 0)), packedRow x (y 0)⟩,
    List.mem_map.mpr ⟨(y 0 : Fin 8), (by decide : ∀ j : Fin 8, j ∈ ([7, 6, 5, 4, 3, 2, 1, 0] : List (Fin 8))) _, rfl⟩, ?_⟩
  show y ∈ (rowRect (y 0).val (row_inside (y 0))).set
  rw [Rect.mem_set_unit]
  intro a
  match a with
  | 0 => exact ⟨Nat.le_refl _, Nat.lt_succ_self _⟩
  | 1 => exact ⟨Nat.zero_le _, by show (y 1).val < 0 + 512; have : (y 1).val < 512 := (y 1).isLt; omega⟩

/-- After the eight row stores the block is the packed one, whatever it held before. -/
theorem rowStores_eq (x : (cc0_stg0_0 : Ref sig .tc).ty.Contents (Elt F)) (f : (cc0_scratch0 : Ref sig .tc).ty.Contents (Elt F)) :
    (Memref.whole cc0_scratch0 : Memref sig .tc .vmem S8x512 .f32).view.writes (Elt F) f (rowStores x) = packed x := by
  have hr : ∀ g : (cc0_scratch0 : Ref sig .tc).ty.Contents (Elt F),
      (Memref.whole cc0_scratch0 : Memref sig .tc .vmem S8x512 .f32).view.read (Elt F) g = g := fun g => View.read_whole ..
  rw [← hr ((Memref.whole cc0_scratch0 : Memref sig .tc .vmem S8x512 .f32).view.writes (Elt F) f (rowStores x))]
  funext y
  refine View.read_writes_apply_of_pieces _ _ (packed x) (rowStores x) ?_ y (rows_cover x y)
  intro p hp z
  obtain ⟨j, -, rfl⟩ := List.mem_map.mp hp
  exact packed_at_row x j (row_inside j) z

/-! ## What is where -/

/-- The input block of device `c`, as the pipeline stages it. -/
def staged (c : Dev nD) : (cc0_stg0_0 : Ref sig .tc).ty.Contents (Elt F) :=
  (win0_0.blk (0 : Fin 1)).view.read (Elt F) (m ((c : Thread nD τ).loc main_arg0))

/-- The block device `c` sends, which its mate receives. -/
def sends (c : Dev nD) : S8x512.Idx → Elt F .f32 := packed (staged m c)

/-- The block device `c` returns: the larger of its own maxima and its mate's. -/
def returns (c : Dev nD) : S8x512.Idx → Elt F .f32 := k0_pay12 (sends m c) (sends m (mate c))

/-- Device `c`'s buffer `b` whole, at contents `f`. -/
abbrev at_ (c : Dev nD) (b : Ref sig .tc) (f : Buf (Elt F) ((c : Thread nD τ).loc b)) : sProp 𝕄 := ((c : Thread nD τ).loc b) ↦{fullShare} f

/-! ## Cells -/

/-- The three cells a device waits on. -/
inductive Role where
  /-- the mate's landing buffer may be written -/
  | ready
  /-- the own block has left -/
  | sent
  /-- the mate's block has arrived -/
  | landed
  deriving DecidableEq

/-- There are three roles. -/
instance : Fintype Role := ⟨{.ready, .sent, .landed}, fun k => by cases k <;> decide⟩

/-- The semaphore of a role. -/
def Role.sem : Role → SemLoc sig
  | .ready => .reg (SemArray.scalar (sig.barrier 0 rfl) : Sems sig S_).sem
  | .sent => .dma cc0_scratch2.sem
  | .landed => .dma cc0_scratch3.sem

/-- The role a semaphore plays, if any. -/
def roleOf (s : SemLoc sig) : Option Role :=
  if s = Role.ready.sem then some .ready else if s = Role.sent.sem then some .sent else if s = Role.landed.sem then some .landed else none

/-- Reading a role off its own semaphore. -/
theorem roleOf_sem (k : Role) : roleOf k.sem = some k := by revert k; decide +kernel

/-- Different roles have different semaphores. -/
theorem Role.sem_inj : Function.Injective Role.sem := fun k k' h => by
  have := (roleOf_sem k).symm.trans ((congrArg roleOf h).trans (roleOf_sem k'))
  exact Option.some.inj this

/-- Device `c`'s cell of role `k`. -/
abbrev cell (k : Role) (c : Dev nD) : GSem nD τ sig := ((c : Thread nD τ), k.sem)

/-- What one copied block credits. -/
abbrev N : ℕ := (Memref.whole cc0_scratch1 : Memref sig .tc .vmem S8x512 .f32).view.dmaCredit
/-- A copy credits something. -/
theorem N_pos : 0 < N := View.dmaCredit_pos _ (by decide)

/-- The credit a cell of role `k` gets. -/
def Role.units : Role → ℕ
  | .ready => 1
  | .sent => N
  | .landed => N

/-- No credit is empty. -/
theorem Role.units_pos (k : Role) : 0 < k.units := by cases k <;> first | exact Nat.one_pos | exact N_pos

/-! ## The schedule -/

/-- What the credit of device `c`'s cell of role `k` hands to `c`: with `ready`, the mate's landing buffer and the news that the
    mate's `landed` cell is in round 0; with `sent`, the own block back; with `landed`, the own landing buffer with the mate's block. -/
def Role.pay (c : Dev nD) : Role → sProp 𝕄
  | .ready => iprop((∃ f, at_ (mate c) cc0_scratch1 f) ∗ reached ER (cell .landed (mate c)) 0)
  | .sent => at_ c cc0_scratch0 (sends m c)
  | .landed => at_ c cc0_scratch1 (sends m (mate c))

omit [FloatOps F] in
/-- What `ready` hands over may be stored in an invariant. -/
instance ready_storable (c : Dev nD) : BI.Storable (upEmb : UEmb _ 𝕄)
    iprop((∃ f, at_ (F := F) (mate c) cc0_scratch1 f) ∗ reached ER (cell .landed (mate c)) 0) := by infer_instance

/-- What a role hands over may be stored in an invariant. -/
instance pay_storable (c : Dev nD) (k : Role) : BI.Storable (upEmb : UEmb _ 𝕄) (k.pay m c) := by
  cases k <;> (unfold Role.pay; infer_instance)

/-- One round: each cell that plays a role has one duty in round 0, and none later. -/
def talk : Rounds.Schedule (GSem nD τ sig) Unit 𝕄 where
  duties g r := if r = 0 ∧ g.1.2 = .tc ∧ (roleOf g.2).isSome then {()} else ∅
  unitless _ := False
  amount g _ _ := (roleOf g.2).elim 1 Role.units
  payload g _ _ := (roleOf g.2).elim iprop(emp) fun k => k.pay m g.1.1
  amount_pos g _ _ _ := by
    cases h : roleOf g.2 with
    | none => exact Nat.one_pos
    | some k => exact k.units_pos

/-- Every payload of the schedule may be stored in an invariant. -/
instance talk_storable (g : GSem nD τ sig) (r : ℕ) (d : Unit) : BI.Storable (upEmb : UEmb _ 𝕄) ((talk (F := F) m).payload g r d) := by
  show BI.Storable upEmb ((roleOf g.2).elim iprop(emp) fun k => k.pay m g.1.1)
  cases roleOf g.2 with
  | none => exact (inferInstance : BI.Storable (upEmb : UEmb _ 𝕄) iprop(emp))
  | some k => exact pay_storable m g.1.1 k

section Sched

variable (k : Role) (c : Dev nD)

/-- A cell of a role has its one duty in round 0. -/
theorem duty : (talk (F := F) m).duties (cell k c) 0 = {()} :=
  if_pos ⟨rfl, rfl, by show (roleOf k.sem).isSome; rw [roleOf_sem]; rfl⟩

/-- That duty, as a membership. -/
theorem duty_mem : () ∈ (talk (F := F) m).duties (cell k c) 0 := by rw [duty]; exact Finset.mem_singleton_self _

/-- No cell has a duty after round 0. -/
theorem no_duty (g : GSem nD τ sig) (r : ℕ) (hr : 1 ≤ r) : (talk (F := F) m).duties g r = ∅ :=
  if_neg fun h => absurd h.1 (Nat.ne_of_gt hr)

/-- The duty's credit. -/
theorem amount_cell (u : Unit) : (talk (F := F) m).amount (cell k c) 0 u = k.units := by
  show (roleOf k.sem).elim 1 Role.units = k.units
  rw [roleOf_sem]; rfl

/-- What the duty hands over. -/
theorem payload_cell (u : Unit) : (talk (F := F) m).payload (cell k c) 0 u = k.pay m c := by
  show (roleOf k.sem).elim iprop(emp) (fun k => k.pay m c) = k.pay m c
  rw [roleOf_sem]; rfl

/-- What a whole round 0 credits. -/
theorem expect_cell : (talk (F := F) m).expect (cell k c) 0 = k.units := by
  unfold Schedule.expect Schedule.amountOf; rw [duty, Finset.sum_singleton, amount_cell]

/-- What a whole round 0 hands over. -/
theorem rest_cell : bigSep ((talk (F := F) m).duties (cell k c) 0 \ ∅) (fun u => (talk (F := F) m).payload (cell k c) 0 u) = k.pay m c := by
  rw [Finset.sdiff_empty, duty, bigSep_singleton, payload_cell]

end Sched

/-! ## What a device owes, and the order of waits -/

/-- At the start a device owes its mate the block and the signal. -/
def owed₀ (c : Dev nD) : CellTallies nD τ sig Unit := tallyAt (cell .landed (mate c)) () N + tallyAt (cell .ready (mate c)) () 1

/-- Every cell of a core has a place in the order of waits. -/
def L (g : GSem nD τ sig) : Finset Unit := if g.1.2 = .tc then {()} else ∅

/-- The order of waits: `ready` before `landed`, every other semaphore before both. -/
def lv (g : GSem nD τ sig) (_ : Unit) : ℕ :=
  match roleOf g.2 with
  | some .ready => 1
  | some .landed => 2
  | _ => 0

/-- The place of `ready` in the order. -/
theorem lv_ready (c : Dev nD) : lv (cell .ready c) () = 1 := by
  show (match roleOf Role.ready.sem with | some .ready => 1 | some .landed => 2 | _ => 0) = 1
  rw [roleOf_sem]
/-- The place of `landed` in the order. -/
theorem lv_landed (c : Dev nD) : lv (cell .landed c) () = 2 := by
  show (match roleOf Role.landed.sem with | some .ready => 1 | some .landed => 2 | _ => 0) = 2
  rw [roleOf_sem]

/-- Only cores have a place in the order. -/
theorem L_of_ne (g : GSem nD τ sig) (h : g.1.2 ≠ .tc) : L g = ∅ := if_neg h

/-- A core's cell has its place. -/
theorem mem_L (c : Dev nD) (s : SemLoc sig) : () ∈ L ((c : Thread nD τ), s) := by
  unfold L; rw [if_pos rfl]; exact Finset.mem_singleton_self _

/-- Two different cells are told apart by their tallies. -/
theorem of_tally_pos {g g' : GSem nD τ sig} {u : Unit} {n : ℕ} (h : 0 < (tallyAt g' () n : CellTallies nD τ sig Unit) g u) : g = g' := by
  rw [tallyAt_apply] at h
  by_contra hn
  rw [if_neg fun h' => hn h'.1] at h
  exact Nat.lt_irrefl 0 h

/-- What a device owes at the start is owed to its mate's two cells. -/
theorem of_owed₀_pos {c : Dev nD} {g : GSem nD τ sig} {u : Unit} (h : 0 < owed₀ c g u) : g = cell .landed (mate c) ∨ g = cell .ready (mate c) := by
  unfold owed₀ at h
  rw [Pi.add_apply, Finsupp.add_apply] at h
  rcases Nat.eq_zero_or_pos ((tallyAt (cell .landed (mate c)) () N : CellTallies nD τ sig Unit) g u) with h0 | h0
  · rw [h0, Nat.zero_add] at h; exact .inr (of_tally_pos h)
  · exact .inl (of_tally_pos h0)

omit [FloatOps F] in
/-- A device that owes its mate only the block may wait for the signal. -/
theorem may_await_ready (c : Dev nD) :
    (levAts L lv : sProp 𝕄) ⊢ MayWait (c : Thread nD τ) Role.ready.sem () (tallyAt (cell .landed (mate c)) () N) :=
  MayOwe.of_cut (L := L) (lev := lv) 1 (fun p hp => by rw [Finset.mem_singleton.mp hp]; exact mem_L c _)
    (fun g u hg => by rw [of_tally_pos hg]; exact mem_L _ _)
    (fun p hp => by rw [Finset.mem_singleton.mp hp]; exact (lv_ready c).le)
    (fun g u hg => by rw [of_tally_pos hg]; exact (lv_landed (mate c)).ge)

/-! ## Ghost state of a device -/

/-- The invariants of the five cells that device `c` opens: its own three and two of its mate's. -/
def invs (κ : GSem nD τ sig → ℕ) (c : Dev nD) : sProp 𝕄 :=
  iprop(cellInv ER (talk m) (κ (cell .ready c)) (cell .ready c) ∗ cellInv ER (talk m) (κ (cell .sent c)) (cell .sent c)
    ∗ cellInv ER (talk m) (κ (cell .landed c)) (cell .landed c)
    ∗ cellInv ER (talk m) (κ (cell .ready (mate c))) (cell .ready (mate c))
    ∗ cellInv ER (talk m) (κ (cell .landed (mate c))) (cell .landed (mate c)))

/-- Invariants may be used again and again. -/
instance invs_persistent (κ : GSem nD τ sig → ℕ) (c : Dev nD) : BI.Persistent (invs m κ c) := by unfold invs; infer_instance

omit [FloatOps F] in
/-- The right to make the three payments device `c` makes. -/
def dues (c : Dev nD) : sProp 𝕄 :=
  iprop(dutyTok ER (cell .ready (mate c)) 0 () ∗ dutyTok ER (cell .landed (mate c)) 0 () ∗ dutyTok ER (cell .sent c) 0 ())

omit [FloatOps F] in
/-- The two credits device `c` waits for that others pay. -/
def awaits (c : Dev nD) : sProp 𝕄 := iprop(cred (tallyAt (cell .ready c) () 1) ∗ cred (tallyAt (cell .landed c) () N))

/-- What device `c` holds of the talk before its kernel starts: the two scoped cells are still closed. -/
def closed (κ : GSem nD τ sig → ℕ) (c : Dev nD) : sProp 𝕄 :=
  iprop(invs m κ c ∗ atPos ER (cell .ready c) 0 ∅ 0 ∗ openTok ER (cell .sent c) ∗ openTok ER (cell .landed c)
    ∗ reached ER (cell .ready (mate c)) 0 ∗ dues c)

/-- What device `c` holds of the talk inside its kernel: all three cells are open, at the start of round 0. -/
def opened (κ : GSem nD τ sig → ℕ) (c : Dev nD) : sProp 𝕄 :=
  iprop(invs m κ c ∗ atPos ER (cell .ready c) 0 ∅ 0 ∗ atPos ER (cell .sent c) 0 ∅ 0 ∗ atPos ER (cell .landed c) 0 ∅ 0
    ∗ reached ER (cell .ready (mate c)) 0 ∗ reached ER (cell .sent c) 0 ∗ reached ER (cell .landed c) 0 ∗ dues c)

/-- A cell after its only round gives its counter back, at zero. -/
theorem close_cell (κ : ℕ) (g : GSem nD τ sig) :
    iprop(cellInv ER (talk m) κ g ∗ atPos ER g (0 + 1) ∅ 0) ⊢ (|={Set.univ}=> semVal g 0 : sProp 𝕄) :=
  Rounds.cell_close ER (talk m) (Set.mem_univ κ) id (no_duty m g)

/-- The kernel calls no other kernel. -/
abbrev 𝒱₀ : Variants := Variants.none

end Cert.KernelIdeal.Swap

end
-- ==== Proof.BodyKernelIdeal.lean ====
/-
  The kernel body of `KernelIdeal`, run from one end to the other on one device: signal the mate, pack the
  row maxima, wait for the mate's signal, copy the block to the mate, wait for both ends of the exchange,
  and return the larger of the two blocks.
-/
module

public import proofs.«01_k».proof.Proof.SwapKernelIdeal

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## Whole buffers -/

/-- The staged input block. -/
abbrev inM : Memref sig .tc .vmem S4096x1024 .f32 := Memref.whole cc0_stg0_0
/-- The staged result block. -/
abbrev outM : Memref sig .tc .vmem S8x512 .f32 := Memref.whole cc0_stg1_0
/-- The block to send. -/
abbrev ownM : Memref sig .tc .vmem S8x512 .f32 := Memref.whole cc0_scratch0
/-- The landing buffer. -/
abbrev mateM : Memref sig .tc .vmem S8x512 .f32 := Memref.whole cc0_scratch1

/-- The rectangle that is the whole block. -/
abbrev all : Rect S8x512 := Rect.unit (s := S8x512) ![0, 0] S8x512.size inb_S8x512_S8x512_0_0

omit [FloatOps F] in
/-- Its offsets are zero. -/
theorem offsets_zero : (![0, 0] : Fin 2 → Nat) = fun _ => 0 := funext fun a => by fin_cases a <;> rfl

omit [FloatOps F] in
/-- Loading the whole block to send. -/
theorem load_own (f : (cc0_scratch0 : Ref sig .tc).ty.Contents (Elt F)) : ownM.view.readAt (Elt F) all.toLoadRect f = f :=
  Memref.readAt_unit_zero (Elt F) cc0_scratch0 offsets_zero _ f
omit [FloatOps F] in
/-- Loading the whole landing buffer. -/
theorem load_mate (f : (cc0_scratch1 : Ref sig .tc).ty.Contents (Elt F)) : mateM.view.readAt (Elt F) all.toLoadRect f = f :=
  Memref.readAt_unit_zero (Elt F) cc0_scratch1 offsets_zero _ f
omit [FloatOps F] in
/-- Storing the whole result block. -/
theorem store_out (f w : (cc0_stg1_0 : Ref sig .tc).ty.Contents (Elt F)) :
    (outM.access all : View sig .tc _ _ _).write (Elt F) f w Finset.univ = w :=
  Memref.write_access_unit_zero_univ (Elt F) cc0_stg1_0 offsets_zero _ f w

omit [FloatOps F] in
/-- A copied block lands whole. -/
theorem lands_whole (fd : (cc0_scratch1 : Ref sig .tc).ty.Contents (Elt F)) (fs : (cc0_scratch0 : Ref sig .tc).ty.Contents (Elt F)) :
    mateM.view.write (Elt F) fd (ownM.view.read (Elt F) fs) Finset.univ = fs := by
  show (View.whole cc0_scratch1).write (Elt F) fd ((View.whole cc0_scratch0).read (Elt F) fs) Finset.univ = fs
  rw [View.read_whole]; exact View.write_whole_univ _ _ _

/-! ## The steps of the talk -/

/-- The signal on device `c`: it hands the mate the own landing buffer, and leaves the block owed. -/
theorem signal_mate (κ : GSem nD τ sig → ℕ) (c : Dev nD) {u : ℕ} (hu : u = 1) {α : Type} {Q : α → sProp 𝕄} {k : PUnit → Prog (TpuEff nD τ sig (Elt F) Λ₀ .tc) α}
    (f : Buf (Elt F) ((c : Thread nD τ).loc cc0_scratch1)) (W : Waits sig Unit) :
    iprop(cellInv ER (talk m) (κ (cell .ready (mate c))) (cell .ready (mate c)) ∗ owes (c : Thread nD τ) (owed₀ c) W
        ∗ dutyTok ER (cell .ready (mate c)) 0 () ∗ at_ c cc0_scratch1 f ∗ reached ER (cell .landed c) 0 ∗ reached ER (cell .ready (mate c)) 0)
      ⊢ iprop((owes (c : Thread nD τ) (tallyAt (cell .landed (mate c)) () N) W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (mate c : Thread nD τ) (SemArray.scalar (sig.barrier 0 rfl) : Sems sig S_).sem u) k) Q) := by
  subst hu
  refine BIBase.Entails.trans ?_ (Rounds.wp_signal 𝒱₀ ER (talk m) (c : Thread nD τ) none (dst := (mate c : Thread nD τ)) (r := 0) (d := ()) (κ := κ (cell .ready (mate c)))
    (duty_mem m .ready (mate c)) (amount_cell m .ready (mate c) ()) () (tallyAt (cell .landed (mate c)) () N) rfl)
  have hp : (talk m).payload ((mate c : Thread nD τ), .reg (SemArray.scalar (sig.barrier 0 rfl) : Sems sig S_).sem) 0 () = Role.ready.pay m (mate c) := payload_cell m .ready (mate c) ()
  rw [hp]
  unfold Role.pay; rw [mate_mate]
  iintro ⟨HI, HO, Hd, Hb, Hl, Hr⟩
  isplitl [HI]; · iexact HI
  isplitl [HO]; · iexact HO
  isplitl [Hd]; · iexact Hd
  isplitl [Hb Hl]
  · isplitl [Hb]; · iexists f; iexact Hb
    iexact Hl
  iexact Hr

/-- A wait on device `c`'s cell of role `r`, by whichever instruction: it takes the whole round and gets what it hands over. -/
theorem await (κ : GSem nD τ sig → ℕ) (r : Role) (c : Dev nD) {w : TpuEff nD τ sig (Elt F) Λ₀ .tc PUnit} {u : ℕ} (hu : u = r.units)
    (hw : ∀ K : PUnit → sProp 𝕄, wpE (defs₀ (F := F)) 𝒱₀ (c : Thread nD τ) none Set.univ w K = waitSpec (c : Thread nD τ) Set.univ r.sem u K)
    {α : Type} {Q : α → sProp 𝕄} {k : PUnit → Prog (TpuEff nD τ sig (Elt F) Λ₀ .tc) α} (O : CellTallies nD τ sig Unit) (W : Waits sig Unit) :
    iprop(cellInv ER (talk m) (κ (cell r c)) (cell r c) ∗ cred (tallyAt (cell r c) () r.units) ∗ owes (c : Thread nD τ) O W
        ∗ MayWait (c : Thread nD τ) r.sem () O ∗ atPos ER (cell r c) 0 ∅ 0)
      ⊢ iprop(((∃ W', owes (c : Thread nD τ) O W') ∗ atPos ER (cell r c) (0 + 1) ∅ 0 ∗ r.pay m c
            -∗ wp frame (wpE (defs₀ (F := F)) 𝒱₀ (c : Thread nD τ) none) Set.univ (k ⟨⟩) Q)
          -∗ wp frame (wpE (defs₀ (F := F)) 𝒱₀ (c : Thread nD τ) none) Set.univ (.op w k) Q) := by
  subst hu
  iintro H Hk
  iapply (Rounds.wp_wait_rest_token 𝒱₀ ER (talk m) (c : Thread nD τ) none (κ := κ (cell r c)) hw (Set.mem_univ _) () (O := O) (W := W) (R := 0) (m := 0) (T := ∅)
    (by rw [expect_cell, Nat.zero_add])) $$ H
  iintro ⟨HO, Hat, -, Hp⟩
  ihave Hp := (Entails.of_eq (rest_cell m r c)) $$ Hp
  iapply Hk
  isplitl [HO]; · iexists _; iexact HO
  isplitl [Hat] <;> iassumption

/-- The remote copy on device `c`: it takes the own packed block and the mate's landing buffer, pays the mate's `landed` cell and the
    own `sent` cell with them, and leaves the credit of the own `sent` cell to wait for. -/
theorem copy_to_mate (κ : GSem nD τ sig → ℕ) (c n : Dev nD) (hn : n = mate c) {hsc : (mateM : Memref sig (Dev.tc n : Thread nD τ).2.kind .vmem S8x512 .f32).view.ref.isScScratch = false}
    {hsrc : ownM.view.WordExact} {hdst : mateM.view.WordExact}
    {hsem : DmaTarget.Typed .vmem (.dma cc0_scratch3.sem) (.remote (Dev.tc n : Thread nD τ) mateM (.dma cc0_scratch2.sem) hsc)}
    {α : Type} {Q : α → sProp 𝕄} {k : PUnit → Prog (TpuEff nD τ sig (Elt F) Λ₀ .tc) α}
    (fn : Buf (Elt F) ((mate c : Thread nD τ).loc cc0_scratch1)) (W : Waits sig Unit) :
    iprop(cellInv ER (talk m) (κ (cell .sent c)) (cell .sent c) ∗ cellInv ER (talk m) (κ (cell .landed (mate c))) (cell .landed (mate c))
        ∗ at_ c cc0_scratch0 (sends m c) ∗ at_ (mate c) cc0_scratch1 fn ∗ owes (c : Thread nD τ) (tallyAt (cell .landed (mate c)) () N) W
        ∗ dutyTok ER (cell .sent c) 0 () ∗ reached ER (cell .sent c) 0 ∗ dutyTok ER (cell .landed (mate c)) 0 () ∗ reached ER (cell .landed (mate c)) 0)
      ⊢ iprop(((cred (tallyAt (cell .sent c) () N) ∗ owes (c : Thread nD τ) 0 W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma ownM (.remote (Dev.tc n : Thread nD τ) mateM (.dma cc0_scratch2.sem) hsc) (.dma cc0_scratch3.sem) hsrc hdst hsem) k) Q) := by
  subst hn
  have hs : ownM.view.set = Finset.univ := View.set_whole _
  have hd : mateM.view.set = Finset.univ := View.set_whole _
  have e₁ : (at_ c cc0_scratch0 (sends m c) : sProp 𝕄) = (ownM.view.loc (c : Thread nD τ) ↦[ownM.view.set]{fullShare} sends m c) := by rw [hs]
  have e₂ : (at_ (mate c) cc0_scratch1 fn : sProp 𝕄) = (mateM.view.loc (mate c : Thread nD τ) ↦[mateM.view.set]{fullShare} fn) := by rw [hd]
  rw [e₁, e₂]
  exact Rounds.wp_send_pointsTo 𝒱₀ ER (talk m) (c : Thread nD τ) none (c' := (mate c : Thread nD τ)) (src := ownM) (dst := mateM)
    (sS := .dma cc0_scratch2.sem) (sem := .dma cc0_scratch3.sem) (q := fullShare) (fs := sends m c) (κ₁ := κ (cell .sent c)) (κ₂ := κ (cell .landed (mate c)))
    (r₁ := 0) (r₂ := 0) (d₁ := ()) (d₂ := ()) (fd := fn)
    (duty_mem m .sent c) (duty_mem m .landed (mate c))
    () () N rfl (amount_cell m .sent c ()) (amount_cell m .landed (mate c) ()) 0 (zero_add _).symm (W := W)
    (by rw [hs]; exact Entails.of_eq (payload_cell m .sent c ()).symm)
    (by rw [hd, lands_whole]; refine Entails.of_eq (Eq.trans ?_ (payload_cell m .landed (mate c) ()).symm); unfold Role.pay; rw [mate_mate])

/-- The store of one row of the block to send, after a load of that row whose value is not used. -/
theorem store_row (c : Dev nD) (f : (cc0_scratch0 : Ref sig .tc).ty.Contents (Elt F)) (l : List (View.Piece (Elt F) S8x512 .f32))
    (r : Rect S8x512) (v : r.shape.Idx → Elt F .f32) {hl : ownM.view.LoadsAt r.toLoadRect} {hx : (ownM.access r).Stores Finset.univ}
    {hm : (Finset.univ : Finset r.shape.Idx) = Finset.univ ∨ ∀ a, r.stride a = 1}
    {α : Type} {Q : α → sProp 𝕄} {k : PUnit → Prog (TpuEff nD τ sig (Elt F) Λ₀ .tc) α} :
    at_ c cc0_scratch0 (ownM.view.writes (Elt F) f l)
      ⊢ iprop((at_ c cc0_scratch0 (ownM.view.writes (Elt F) f (⟨r, v⟩ :: l)) -∗ wp frame (wpE (defs₀ (F := F)) 𝒱₀ (c : Thread nD τ) none) Set.univ (k ⟨⟩) Q)
          -∗ wp frame (wpE (defs₀ (F := F)) 𝒱₀ (c : Thread nD τ) none) Set.univ
              (.op (.load ownM r.toLoadRect hl) fun _ => .op (.store ownM r v Finset.univ hx hm) k) Q) := by
  iintro H Hk
  iapply (wp_load 𝒱₀ (c : Thread nD τ) none Set.univ (m := ownM) (Finset.subset_univ _)) $$ H; iintro H
  iapply (wp_store 𝒱₀ (c : Thread nD τ) none Set.univ (m := ownM) (r := r) (Mk := Finset.univ) (Finset.subset_univ _)) $$ H; iintro H
  iapply Hk
  iexact H

/-- The eight row stores as the body makes them, from the seven strips' maximum `s` and the eighth strip `e`, leave the packed block. -/
theorem rows_written (x : (cc0_stg0_0 : Ref sig .tc).ty.Contents (Elt F)) (f : (cc0_scratch0 : Ref sig .tc).ty.Contents (Elt F))
    (s : FVec F S4096x128 .f32) (e : Vec F S4096x128 .f32) (hs : s = seven x) (he : e = eighth x) :
    ownM.view.writes (Elt F) f
      [⟨rowRect 7 inb_S8x512_S1x512_7_0, k0_pay11 (k0_pay2 s e)⟩, ⟨rowRect 6 inb_S8x512_S1x512_6_0, k0_pay10 (k0_pay2 s e)⟩,
       ⟨rowRect 5 inb_S8x512_S1x512_5_0, k0_pay9 (k0_pay8 s e)⟩, ⟨rowRect 4 inb_S8x512_S1x512_4_0, k0_pay7 s e⟩,
       ⟨rowRect 3 inb_S8x512_S1x512_3_0, k0_pay6 s e⟩, ⟨rowRect 2 inb_S8x512_S1x512_2_0, k0_pay5 s e⟩,
       ⟨rowRect 1 inb_S8x512_S1x512_1_0, k0_pay4 s e⟩, ⟨rowRect 0 inb_S8x512_S1x512_0_0, k0_pay3 s e⟩] = packed x := by
  subst hs he
  exact rowStores_eq x f

/-! ## The run -/

/-- What the body starts from on device `c`. -/
def bodyIn (κ : GSem nD τ sig → ℕ) (c : Dev nD) (W : Waits sig Unit) : sProp 𝕄 :=
  iprop(opened m κ c ∗ awaits c ∗ levAts L lv ∗ (∃ f, at_ c cc0_scratch0 f) ∗ (∃ f, at_ c cc0_scratch1 f)
    ∗ at_ c cc0_stg0_0 (staged m c) ∗ (∃ f, at_ c cc0_stg1_0 f) ∗ owes (c : Thread nD τ) (owed₀ c) W)

/-- What the body leaves: the three counters at zero, the result block in its place, nothing owed. -/
def bodyOut (c : Dev nD) : sProp 𝕄 :=
  iprop(semVal (cell .ready c) 0 ∗ semVal (cell .sent c) 0 ∗ semVal (cell .landed c) 0
    ∗ at_ c cc0_scratch0 (sends m c) ∗ at_ c cc0_scratch1 (sends m (mate c))
    ∗ at_ c cc0_stg0_0 (staged m c) ∗ at_ c cc0_stg1_0 (returns m c) ∗ ∃ W, owes (c : Thread nD τ) (0 : CellTallies nD τ sig Unit) W)

set_option maxHeartbeats 1600000 in
set_option maxRecDepth 8192 in
/-- The body, on any device. -/
theorem body_run (κ : GSem nD τ sig → ℕ) (c : Dev nD) (W : Waits sig Unit) (Kt : PUnit → sProp 𝕄) :
    iprop(bodyIn m κ c W ∗ (bodyOut m c -∗ Kt ⟨⟩))
      ⊢ wp frame (wpE (defs₀ (F := F)) 𝒱₀ c none) Set.univ
          (cc0_body (Memref.whole cc0_stg0_0) (Memref.isWhole_whole _) (Memref.whole cc0_stg1_0) (Memref.isWhole_whole _)
            (Memref.whole cc0_scratch0) (Memref.isWhole_whole _) (Memref.whole cc0_scratch1) (Memref.isWhole_whole _) cc0_scratch2 cc0_scratch3) Kt := by
  simp only [cc0_body_eq_skeleton]; unfold cc0_body_skel
  simp only [k0_part1_eq_skeleton, k0_part2_eq_skeleton, k0_part3_eq_skeleton]; unfold k0_part1_skel k0_part2_skel k0_part3_skel
  simp only [semSignalWord, semWaitWord, Prog.lift, Prog.bind_op, Prog.bind_ret, Prog.pure_eq_ret, wp_deviceId]
  unfold bodyIn opened invs dues awaits
  iintro ⟨⟨⟨⟨#HIr, #HIs, #HIl, #HIrM, #HIlM⟩, HatR, HatS, HatL, #HrM, #HrS, #HrL, HdR, HdL, HdS⟩, ⟨HcR, HcL⟩, #Hlev, ⟨%f0, Hown⟩, ⟨%f1, Hland⟩, Hin, ⟨%g, Hout⟩, HO⟩, Hk⟩
  simp only [signalled_eq c]
  iapply (signal_mate m κ c (by decide) f1 W) $$ [HO HdR Hland]
  · isplitr; · iexact HIrM
    isplitl [HO]; · iexact HO
    isplitl [HdR]; · iexact HdR
    isplitl [Hland]; · iexact Hland
    isplitr; · iexact HrL
    iexact HrM
  iintro HO
  -- the eight strips of the input
  iterate 8 (iapply (wp_load 𝒱₀ (c : Thread nD τ) none Set.univ (m := inM) (Finset.subset_univ _)) $$ Hin; iintro Hin)
  -- the eight rows of the packed block
  ihave Hown := (show at_ c cc0_scratch0 f0 ⊢ (at_ c cc0_scratch0 (ownM.view.writes (Elt F) f0 []) : sProp 𝕄) from BI.Entails.refl _) $$ Hown
  iapply (store_row c f0 [] (rowRect 0 inb_S8x512_S1x512_0_0) _) $$ Hown; iintro Hown
  iapply (store_row c f0 _ (rowRect 1 inb_S8x512_S1x512_1_0) _) $$ Hown; iintro Hown
  iapply (store_row c f0 _ (rowRect 2 inb_S8x512_S1x512_2_0) _) $$ Hown; iintro Hown
  iapply (store_row c f0 _ (rowRect 3 inb_S8x512_S1x512_3_0) _) $$ Hown; iintro Hown
  iapply (store_row c f0 _ (rowRect 4 inb_S8x512_S1x512_4_0) _) $$ Hown; iintro Hown
  iapply (store_row c f0 _ (rowRect 5 inb_S8x512_S1x512_5_0) _) $$ Hown; iintro Hown
  iapply (store_row c f0 _ (rowRect 6 inb_S8x512_S1x512_6_0) _) $$ Hown; iintro Hown
  iapply (store_row c f0 _ (rowRect 7 inb_S8x512_S1x512_7_0) _) $$ Hown; iintro Hown
  rw [rows_written (staged m c) f0]
  case hs => rfl
  case he => rfl
  -- the mate's landing buffer arrives with its signal
  iapply (await m κ .ready c (by decide) (wpE_semWait_eq 𝒱₀ (c : Thread nD τ) none Set.univ) (tallyAt (cell .landed (mate c)) () N) W) $$ [HcR HO HatR]
  · isplitr; · iexact HIr
    isplitl [HcR]; · iexact HcR
    isplitl [HO]; · iexact HO
    isplitr; · iapply (may_await_ready c); iexact Hlev
    iexact HatR
  iintro ⟨⟨%W1, HO⟩, HatR, Hp⟩
  unfold Role.pay
  icases Hp with ⟨⟨%fn, HlandM⟩, #HrLM⟩
  -- the block goes to the mate
  iapply (copy_to_mate m κ c _ (copied_to_eq c) fn W1) $$ [Hown HlandM HO HdS HdL]
  · isplitr; · iexact HIs
    isplitr; · iexact HIlM
    isplitl [Hown]; · iexact Hown
    isplitl [HlandM]; · iexact HlandM
    isplitl [HO]; · iexact HO
    isplitl [HdS]; · iexact HdS
    isplitr; · iexact HrS
    isplitl [HdL]; · iexact HdL
    iexact HrLM
  iintro ⟨HcS, HO⟩
  -- it has left: the own block is back
  iapply (await m κ .sent c rfl (wpE_waitDma2_eq (dst := ownM) 𝒱₀ (c : Thread nD τ) none Set.univ) 0 W1) $$ [HcS HO HatS]
  · isplitr; · iexact HIs
    isplitl [HcS]; · iexact HcS
    isplitl [HO]; · iexact HO
    isplitr; · rw [MayWait_zero]; iempintro
    iexact HatS
  iintro ⟨⟨%W2, HO⟩, HatS, Hown⟩
  -- the mate's block has landed
  iapply (await m κ .landed c rfl (wpE_waitDma2_eq (dst := mateM) 𝒱₀ (c : Thread nD τ) none Set.univ) 0 W2) $$ [HcL HO HatL]
  · isplitr; · iexact HIl
    isplitl [HcL]; · iexact HcL
    isplitl [HO]; · iexact HO
    isplitr; · rw [MayWait_zero]; iempintro
    iexact HatL
  iintro ⟨⟨%W3, HO⟩, HatL, Hland⟩
  imod (close_cell m (κ (cell .ready c)) (cell .ready c)) $$ [HatR] with HzR
  · isplitr; · iexact HIr
    iexact HatR
  imod (close_cell m (κ (cell .sent c)) (cell .sent c)) $$ [HatS] with HzS
  · isplitr; · iexact HIs
    iexact HatS
  imod (close_cell m (κ (cell .landed c)) (cell .landed c)) $$ [HatL] with HzL
  · isplitr; · iexact HIl
    iexact HatL
  unfold Role.pay
  -- the larger of the two blocks is the result
  iapply (wp_load 𝒱₀ (c : Thread nD τ) none Set.univ (m := ownM) (Finset.subset_univ _)) $$ Hown; iintro Hown
  rw [load_own]
  iapply (wp_load 𝒱₀ (c : Thread nD τ) none Set.univ (m := mateM) (Finset.subset_univ _)) $$ Hland; iintro Hland
  rw [load_mate]
  iapply (wp_load 𝒱₀ (c : Thread nD τ) none Set.univ (m := outM) (Finset.subset_univ _)) $$ Hout; iintro Hout
  iapply (wp_store 𝒱₀ (c : Thread nD τ) none Set.univ (m := outM) (r := all) (Mk := Finset.univ) (Finset.subset_univ _)) $$ Hout; iintro Hout
  rw [store_out, wp_ret]; imodintro
  iapply Hk
  unfold bodyOut
  isplitl [HzR]; · iexact HzR
  isplitl [HzS]; · iexact HzS
  isplitl [HzL]; · iexact HzL
  isplitl [Hown]; · iexact Hown
  isplitl [Hland]; · iexact Hland
  isplitl [Hin]; · iexact Hin
  isplitl [Hout]; · iexact Hout
  iexists W3; iexact HO

end Cert.KernelIdeal.Swap

end
-- ==== Proof.RegionKernelIdeal.lean ====
/-
  The kernel of `KernelIdeal` as one region of the program: what the two windows hold, what the region is
  entered with and left with, and the host's reshape after it.
-/
module

public import proofs.«01_k».proof.Proof.BodyKernelIdeal
public import Idealize.ShloMosaic.Lib.Pipeline.ValueKit

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ)

/-! ## The region's state -/

/-- What a device brings to its kernel from the launch: the talk, with the scoped cells closed, and the credits it waits for. -/
def brings (c : Dev nD) : sProp 𝕄 := iprop((∃ κ, closed m κ c) ∗ awaits c)

/-- The same once the scoped cells are open, with the order of waits. -/
def enters (c : Dev nD) : sProp 𝕄 := iprop((∃ κ, opened m κ c) ∗ awaits c ∗ levAts L lv)

/-- Both scratch blocks, at whatever they hold. -/
def scratch (c : Dev nD) : sProp 𝕄 := iprop((∃ f, at_ (F := F) c cc0_scratch0 f) ∗ (∃ f, at_ (F := F) c cc0_scratch1 f))

/-- Before the body. -/
def atStart (c : Dev nD) : sProp 𝕄 := iprop(enters m c ∗ scratch c ∗ ∃ r, prngReg c r)

omit [FloatOps F] in
/-- After the body: the counters are back at zero. -/
def atEnd (c : Dev nD) : sProp 𝕄 :=
  iprop(semVal (cell .ready c) 0 ∗ (semVal (cell .sent c) 0 ∗ semVal (cell .landed c) 0) ∗ scratch (F := F) c ∗ ∃ r, prngReg c r)

/-- The kernel's two windows: the input block comes in as staged, the output block leaves as returned. -/
def dat (c : Dev nD) : Dat τ (Elt F) Unit ℕ UU ℕ cfg0 c where
  A w := m ((cfg0.win w).arr.view.loc (c : Thread nD τ))
  after w _ := match w with
    | ⟨0, _⟩ => staged m c
    | ⟨1, _⟩ => returns m c
  Φ t := match t with
    | ⟨0, _⟩ => atStart m c
    | ⟨_ + 1, _⟩ => atEnd c
  q _ := fullShare
  owed t := match t with
    | ⟨0, _⟩ => owed₀ c
    | ⟨_ + 1, _⟩ => 0

/-- Both arrays are held whole. -/
theorem share_full (c : Dev nD) (w : Fin cfg0.W) : (dat (F := F) m c).share w = fullShare := by unfold Dat.share; split <;> rfl

/-- A staging buffer, at contents equal to `X`. -/
abbrev stg (c : Dev nD) (b : Ref sig .tc) (X : b.ty.Contents (Elt F)) : sProp 𝕄 :=
  iprop(∃ f : Buf (Elt F) ((c : Thread nD τ).loc b), ⌜f = X⌝ ∗ (((c : Thread nD τ).loc b) ↦{fullShare} f))

/-- The one point's state before the body, window by window. -/
def pointIn (c : Dev nD) : sProp 𝕄 :=
  iprop(atStart m c ∗ (dat m c).owesAt () t0_0.castSucc
    ∗ (∃ d, stg c cc0_stg0_0 ((dat m c).before (0 : Fin 2) t0_0 d)) ∗ (∃ d, stg c cc0_stg1_0 ((dat m c).before (1 : Fin 2) t0_0 d)))

/-- The one point's state after the body. -/
def pointOut (c : Dev nD) : sProp 𝕄 :=
  iprop(atEnd (F := F) c ∗ (dat m c).owesAt () t0_0.succ ∗ stg c cc0_stg0_0 (staged m c) ∗ stg c cc0_stg1_0 (returns m c))

/-- The input window is fetched as the staged block. -/
theorem before_input (c : Dev nD) (d) : (dat m c).before (0 : Fin 2) t0_0 d = staged m c := by
  unfold Dat.before; rw [if_pos (fetch0_0 t0_0)]; rfl

set_option maxRecDepth 4096 in
/-- The body at the one point. -/
theorem point_run (c : Dev nD) : pointIn m c ⊢ wp frame (wpE (defs₀ (F := F)) 𝒱₀ c none) Set.univ
    (cc0_body (Memref.whole cc0_stg0_0) (Memref.isWhole_whole _) (Memref.whole cc0_stg1_0) (Memref.isWhole_whole _)
      (Memref.whole cc0_scratch0) (Memref.isWhole_whole _) (Memref.whole cc0_scratch1) (Memref.isWhole_whole _) cc0_scratch2 cc0_scratch3)
    (fun _ => pointOut m c) := by
  unfold pointIn atStart enters scratch
  iintro ⟨⟨⟨⟨%κ, Hg⟩, Haw, Hlev⟩, ⟨Hown, Hland⟩, Hreg⟩, Ho, ⟨%d0, %g0, %hg0, Hin⟩, ⟨%d1, %g1, %hg1, Hout⟩⟩
  rw [before_input] at hg0
  subst hg0
  unfold Dat.owesAt Pipeline.owesWithin
  icases Ho with ⟨%W, %hW, HO⟩
  rw [show (dat m c).owed t0_0.castSucc = owed₀ c from rfl]
  iapply (body_run m κ c W fun _ => pointOut m c)
  isplitr [Hreg]
  · unfold bodyIn
    isplitl [Hg]; · iexact Hg
    isplitl [Haw]; · iexact Haw
    isplitl [Hlev]; · iexact Hlev
    isplitl [Hown]; · iexact Hown
    isplitl [Hland]; · iexact Hland
    isplitl [Hin]; · iexact Hin
    isplitl [Hout]; · iexists g1; iexact Hout
    iexact HO
  unfold bodyOut pointOut atEnd scratch
  iintro ⟨HzR, HzS, HzL, Hown, Hland, Hin, Hout, ⟨%W', HO⟩⟩
  isplitl [HzR HzS HzL Hown Hland Hreg]
  · isplitl [HzR]; · iexact HzR
    isplitl [HzS HzL]; · isplitl [HzS] <;> iassumption
    isplitl [Hown Hland]
    · isplitl [Hown]; · iexists _; iexact Hown
      iexists _; iexact Hland
    iexact Hreg
  isplitl [HO]
  · unfold Dat.owesAt Pipeline.owesWithin
    rw [show (dat m c).owed t0_0.succ = 0 from rfl]
    iexists W'
    isplitr; · ipureintro; exact fun _ _ => Or.inl trivial
    iexact HO
  isplitl [Hin]
  · iexists _; isplitr; · (ipureintro; rfl)
    iexact Hin
  iexists _; isplitr; · (ipureintro; rfl)
  iexact Hout

set_option maxRecDepth 4096 in
/-- The body meets the pipeline's obligation. -/
theorem obligation (c : Dev nD) : BodyObligation (dat (F := F) m c) (defs₀ (F := F)) 𝒱₀ () Set.univ := fun t => by
  rw [fin_N0 t, bigSep_W0, bigSep_W0]
  simp only [owns_whole_eq]
  exact point_run m c

/-! ## The region -/

/-- The program has no prefetched table. -/
abbrev adm : (p : Fin 1) → (pcfgs (F := F) p).Adm := fun p => (cfgs p).toPCfg_adm

/-- The proof data of every region: there is one. -/
def pdats : (p : Fin 1) → (c : Dev nD) → Dat τ (Elt F) Unit ℕ UU ℕ (Pipeline.pin (pcfgs (F := F)) adm p) c
  | 0 => dat m

/-- The kernel's own semaphores: those of the copy. -/
def osem : Fin 2 → SemLoc sig
  | 0 => Role.sent.sem
  | 1 => Role.landed.sem

/-- They are scoped, distinct, and no window's. -/
theorem osem_facts : Pipeline.OwnSemFacts spec0 osem := by decide +kernel

omit [FloatOps F] in
/-- Their counters at zero, one by one. -/
theorem osem_zero (c : Dev nD) : (Pipeline.ownSems0 osem c : sProp 𝕄) = iprop(semVal (cell .sent c) 0 ∗ semVal (cell .landed c) 0) :=
  BI.bigSep_fin_two (fun k : Fin 2 => (semVal ((c : Thread nD τ), osem k) 0 : sProp 𝕄))

/-- The staging cells of the pipeline are pairwise distinct. -/
theorem staging_inj : Function.Injective (cellOf (nD := nD) (τ := τ) (Pipeline.pin (pcfgs (F := F)) adm)) := cellOf_inj

/-- The region's layout facts. -/
theorem layout : Pipeline.PLaunchFacts (nD := nD) (τ := τ) (pcfgs (F := F)) 0 where
  cellOf_inj a := by rw [Subsingleton.elim a adm]; exact staging_inj
  win := winFacts0
  pre := Pipeline.PreFacts.none _
  block_pos := block_pos0
  arr_whole := arr_whole0
  stage_whole := stage_whole0

/-- The contents a device is launched with. -/
abbrev W₀ (c : Dev nD) : Valuation τ sig (Elt F) := fun b => m (c, b)

/-- The contents after the region: the kernel's result array holds the returned block. -/
def W₁ (c : Dev nD) : Valuation τ sig (Elt F) := Function.update (W₀ m c) (Proc.devRef .tc main_v1) (returns m c)

/-- The region leaves the argument alone. -/
theorem W₁_arg (c : Dev nD) : W₁ m c (Proc.devRef .tc main_arg0) = m (c, Proc.devRef .tc main_arg0) :=
  Function.update_of_ne (by decide) _ _
/-- The region leaves the reshaped result alone. -/
theorem W₁_res (c : Dev nD) : W₁ m c (Proc.devRef .tc main_v2) = m (c, Proc.devRef .tc main_v2) :=
  Function.update_of_ne (by decide) _ _
/-- The region's result array. -/
theorem W₁_out (c : Dev nD) : W₁ m c (Proc.devRef .tc main_v1) = returns m c := Function.update_self _ _ _

/-- The output window's write-back leaves the returned block in the array. -/
theorem out_array (c : Dev nD) : (dat m c).arrAt (1 : Fin 2) cfg0.N = (returns m c : (main_v1 : Ref sig .tc).ty.Contents (Elt F)) := by
  refine (dat m c).arrAt_eq_of_after_last (1 : Fin 2) t0_0 (by decide +kernel) _ fun j => ?_
  blk_simp
  rfl

omit [FloatOps F] in
/-- The buffers the region's windows are on. -/
theorem held_windows (c : Dev nD) (W : Valuation τ sig (Elt F)) :
    (StableHlo.held (c.tc : Thread nD τ) (Pipeline.arrRefs (τ := τ) (pcfgs (F := F) 0).spec) W : sProp 𝕄)
      = iprop(at_ c main_arg0 (W (Proc.devRef .tc main_arg0)) ∗ at_ c main_v1 (W (Proc.devRef .tc main_v1))) := by
  unfold StableHlo.held
  rw [show Pipeline.arrRefs (τ := τ) (pcfgs (F := F) 0).spec = ({Proc.devRef .tc main_arg0, Proc.devRef .tc main_v1} : Finset (DevRef τ sig)) from
      (by decide : Pipeline.arrRefs (τ := τ) spec0 = {Proc.devRef .tc main_arg0, Proc.devRef .tc main_v1}),
    bigSep_eq_bigSepL_of_eq [Proc.devRef .tc main_arg0, Proc.devRef .tc main_v1] (by decide) (by decide)]
  rfl

/-- The buffer the region does not touch: the host's result. -/
abbrev beside : Finset (DevRef τ sig) := {Proc.devRef .tc main_v2}

/-- The unscoped buffers of a device. -/
abbrev bufs : Finset (DevRef τ sig) := {Proc.devRef .tc main_arg0, Proc.devRef .tc main_v1, Proc.devRef .tc main_v2}

omit [FloatOps F] in
/-- That buffer, held. -/
theorem held_beside (c : Dev nD) (W : Valuation τ sig (Elt F)) :
    (StableHlo.held (c.tc : Thread nD τ) beside W : sProp 𝕄) = at_ c main_v2 (W (Proc.devRef .tc main_v2)) := by
  unfold StableHlo.held beside
  rw [bigSep_singleton]

omit [FloatOps F] in
/-- All unscoped buffers, one by one. -/
theorem held_bufs (c : Dev nD) (W : Valuation τ sig (Elt F)) :
    (StableHlo.held (c.tc : Thread nD τ) bufs W : sProp 𝕄)
      = iprop(at_ c main_arg0 (W (Proc.devRef .tc main_arg0)) ∗ at_ c main_v1 (W (Proc.devRef .tc main_v1)) ∗ at_ c main_v2 (W (Proc.devRef .tc main_v2))) := by
  unfold StableHlo.held
  rw [bigSep_eq_bigSepL_of_eq [Proc.devRef .tc main_arg0, Proc.devRef .tc main_v1, Proc.devRef .tc main_v2] (by decide) (by decide)]
  rfl

/-- With their counters in hand, the two scoped cells open. -/
theorem open_cells (c : Dev nD) : iprop(brings m c ∗ Pipeline.ownSems0 osem c ∗ levAts L lv) ⊢ (|={Set.univ}=> enters m c : sProp 𝕄) := by
  rw [osem_zero]
  unfold brings enters closed invs
  iintro ⟨⟨⟨%κ, ⟨#HIr, #HIs, #HIl, #HIrM, #HIlM⟩, Hat, HoS, HoL, #HrM, Hd⟩, Haw⟩, ⟨HzS, HzL⟩, Hlev⟩
  imod (Rounds.cell_open ER (talk m) (g := cell .sent c) (Set.mem_univ (κ (cell .sent c)))) $$ [HoS HzS] with ⟨HatS, #HrS⟩
  · isplitr; · iexact HIs
    isplitl [HoS] <;> iassumption
  imod (Rounds.cell_open ER (talk m) (g := cell .landed c) (Set.mem_univ (κ (cell .landed c)))) $$ [HoL HzL] with ⟨HatL, #HrL⟩
  · isplitr; · iexact HIl
    isplitl [HoL] <;> iassumption
  imodintro
  isplitr [Haw Hlev]
  · iexists κ; unfold opened invs
    isplitr
    · isplitr; · iexact HIr
      isplitr; · iexact HIs
      isplitr; · iexact HIl
      isplitr; · iexact HIrM
      iexact HIlM
    isplitl [Hat]; · iexact Hat
    isplitl [HatS]; · iexact HatS
    isplitl [HatL]; · iexact HatL
    isplitr; · iexact HrM
    isplitr; · iexact HrS
    isplitr; · iexact HrL
    iexact Hd
  isplitl [Haw] <;> iassumption

/-- The region's invariant at its start. -/
theorem region_in (c : Dev nD) :
    iprop(Pipeline.scopedRest (Pipeline.pin (pcfgs (F := F)) adm 0).spec c ∗ (∃ r, prngReg c r) ∗ StableHlo.held (c.tc : Thread nD τ) ∅ (W₀ m c) ∗ enters m c)
      ⊢ ((pdats m 0 c).Φ 0 : sProp 𝕄) := by
  rw [show (pdats m 0 c).Φ 0 = atStart m c from rfl,
    show (Pipeline.scopedRest (Pipeline.pin (pcfgs (F := F)) adm 0).spec c : sProp 𝕄) = scratch c from scopedRest0_eq c]
  unfold atStart
  iintro ⟨Hs, Hp, -, He⟩
  isplitl [He]; · iexact He
  isplitl [Hs] <;> iassumption

/-- What the region's invariant gives back at its end. -/
theorem region_out (c : Dev nD) : ((pdats m 0 c).Φ (Fin.last (Pipeline.pin (pcfgs (F := F)) adm 0).N) : sProp 𝕄)
    ⊢ iprop(Pipeline.scopedRest (Pipeline.pin (pcfgs (F := F)) adm 0).spec c ∗ (∃ r, prngReg c r) ∗ StableHlo.held (c.tc : Thread nD τ) ∅ (W₁ m c)
      ∗ Pipeline.ownSems0 osem c ∗ semVal (cell .ready c) 0) := by
  rw [show (pdats m 0 c).Φ (Fin.last _) = atEnd c from rfl, osem_zero,
    show (Pipeline.scopedRest (Pipeline.pin (pcfgs (F := F)) adm 0).spec c : sProp 𝕄) = scratch c from scopedRest0_eq c,
    show (StableHlo.held (c.tc : Thread nD τ) ∅ (W₁ m c) : sProp 𝕄) = iprop(emp) from bigSep_empty]
  unfold atEnd
  iintro ⟨HzR, Hz, Hs, Hp⟩
  isplitl [Hs]; · iexact Hs
  isplitl [Hp]; · iexact Hp
  isplitr; · iempintro
  isplitl [Hz] <;> iassumption

/-- Whatever a device owes at any point lies above the staging semaphores in the order of waits. -/
theorem owes_above (c : Dev nD) (t : Fin ((Pipeline.pin (pcfgs (F := F)) adm 0).N + 1)) (g : GSem nD τ sig) (u : Unit)
    (h : 0 < (pdats (F := F) m 0 c).owed t g u) : u ∈ L g ∧ (0 : ℕ) < lv g u := by
  match t, h with
  | ⟨0, _⟩, h =>
    rcases of_owed₀_pos (show 0 < owed₀ c g u from h) with rfl | rfl
    · exact ⟨mem_L _ _, by rw [lv_landed]; decide⟩
    · exact ⟨mem_L _ _, by rw [lv_ready]; decide⟩
  | ⟨_ + 1, _⟩, h => exact absurd (show 0 < (0 : CellTallies nD τ sig Unit) g u from h) (Nat.lt_irrefl 0)

/-- A staging semaphore is at the bottom of the order of waits. -/
theorem staging_bottom (c : Dev nD) (w : Fin 2) (s : Fin (spec0 w).nbuf) : lv ((c : Thread nD τ), .dma ((spec0 w).sem s)) () ≤ 0 := by
  have h : ∀ (w : Fin 2) (s : Fin (spec0 w).nbuf), roleOf (.dma ((spec0 w).sem s)) = none := by decide +kernel
  unfold lv; dsimp only; rw [h w s]

local notation "𝕊" => Pipeline.RegionSeg (pcfgs (F := F)) adm (pdats m) () defs₀ 𝒱₀ L lv
local notation "ℍ" => Pipeline.HostSeg (Name := ℕ) (U := UU) (pcfgs (F := F)) defs₀ 𝒱₀ L lv

set_option backward.isDefEq.respectTransparency.types false in
/-- The region. -/
def region : 𝕊 0 :=
  Pipeline.RegionSeg.ofTalk (pcfgs (F := F)) adm (pdats m) () defs₀ 𝒱₀ L lv 0 osem osem_facts
    ∅ beside (Finset.empty_subset _) layout rfl (fun c => (obligation m c).loose)
    (fun _ => 0) owed₀ (fun c => (zero_add _).symm) (fun _ => rfl) (fun _ => rfl) (share_full m)
    (W₀ m) (W₁ m) (fun c b hb => by
      rw [Finset.sdiff_empty, Finset.mem_singleton] at hb; subst hb; exact W₁_res m c)
    (brings m) (fun c => semVal (cell .ready c) 0) (enters m) (fun c => semVal (cell .ready c) 0)
    (open_cells m) (region_in m) (region_out m)
    (fun c => by iintro H; imodintro; iexact H)
    (fun _ => 0)
    ⟨fun c w s => mem_L c _, staging_bottom, fun c t g i h => owes_above m c t g i h⟩
    (fun _ => iprop(emp))
    (fun c w => by fin_cases w <;> rfl)
    (fun c w => by
      fin_cases w
      · exact ((dat m c).arrAt_in (0 : Fin 2) rfl _).trans (W₁_arg m c).symm
      · exact (out_array m c).trans (W₁_out m c).symm)

/-- The host's reshape after the region; the barrier counter and the empty debt ride along. -/
def after : ℍ :=
  Pipeline.HostSeg.ofOps _ _ _ _ _ bufs hostOps1
    (fun op h => by simp only [List.mem_singleton] at h; subst h; exact (by decide : ({Proc.devRef .tc main_v1, Proc.devRef .tc main_v2} : Finset (DevRef τ sig)) ⊆ bufs))
    (fun op h => by simp only [List.mem_singleton] at h; subst h; rfl)
    (W₁ m) (fun c => iprop(semVal (cell .ready c) 0 ∗ ∃ W, owes (c : Thread nD τ) (0 : CellTallies nD τ sig Unit) W))

/-- The program: the region, then the reshape. -/
def parts : List (Pipeline.Seg (pcfgs (F := F)) adm (pdats m) () defs₀ 𝒱₀ L lv) := [.region (region m), .host (after m)]

/-- The program is its parts. -/
theorem main_parts (c : Dev nD) : main (F := F) c = Pipeline.Seg.run (parts m) :=
  main_segs adm (pdats m) () 𝒱₀ L lv (after m) (region m) rfl c

/-- A device's state at the start of the program. -/
abbrev first (c : Dev nD) : sProp 𝕄 :=
  iprop(StableHlo.held (c.tc : Thread nD τ) bufs (W₀ m c) ∗ (∃ r, prngReg c r) ∗ brings m c ∗ ∃ W, owes (c : Thread nD τ) (owed₀ c) W)

/-- The contents at the end of the program. -/
abbrev W₂ (c : Dev nD) : Valuation τ sig (Elt F) := StableHlo.after hostOps1 (W₁ m c)

/-- A device's state at the end of the program. -/
abbrev final (c : Dev nD) : sProp 𝕄 := iprop(StableHlo.held (c.tc : Thread nD τ) bufs (W₂ m c) ∗ semVal (cell .ready c) 0)

/-- The program's start is the region's. -/
theorem first_region (c : Dev nD) : first m c ⊢ (region m).pre c := by
  show _ ⊢ iprop(StableHlo.held (c.tc : Thread nD τ) (Pipeline.arrRefs (τ := τ) (pcfgs (F := F) 0).spec) (W₀ m c) ∗ (∃ r, prngReg c r)
    ∗ (StableHlo.held (c.tc : Thread nD τ) beside (W₀ m c) ∗ emp) ∗ brings m c ∗ ∃ Wd, owes (c : Thread nD τ) (0 + owed₀ c) Wd)
  unfold first
  rw [held_windows, held_beside, held_bufs, zero_add]
  iintro ⟨⟨Ha, Hb, Hr⟩, Hp, HB, HO⟩
  isplitl [Ha Hb]; · isplitl [Ha] <;> iassumption
  isplitl [Hp]; · iexact Hp
  isplitl [Hr]
  · isplitl [Hr]; · iexact Hr
    iempintro
  isplitl [HB] <;> iassumption

/-- The region's end is the reshape's start. -/
theorem region_after (c : Dev nD) : (region m).post c ⊢ (after m).pre c := by
  show iprop(StableHlo.held (c.tc : Thread nD τ) (Pipeline.arrRefs (τ := τ) (pcfgs (F := F) 0).spec) (W₁ m c) ∗ (∃ r, prngReg c r)
    ∗ (StableHlo.held (c.tc : Thread nD τ) beside (W₁ m c) ∗ emp) ∗ semVal (cell .ready c) 0 ∗ ∃ Wd, owes (c : Thread nD τ) (0 : CellTallies nD τ sig Unit) Wd)
    ⊢ iprop(StableHlo.held (c.tc : Thread nD τ) bufs (W₁ m c) ∗ semVal (cell .ready c) 0 ∗ ∃ W, owes (c : Thread nD τ) (0 : CellTallies nD τ sig Unit) W)
  rw [held_windows, held_beside, held_bufs]
  iintro ⟨⟨Ha, Hb⟩, -, ⟨Hr, -⟩, Hz, HO⟩
  isplitl [Ha Hb Hr]
  · isplitl [Ha]; · iexact Ha
    isplitl [Hb] <;> iassumption
  isplitl [Hz] <;> iassumption

/-- The reshape's end is the program's. -/
theorem after_final (c : Dev nD) : (after m).post c ⊢ iprop(final m c ∗ ∃ W, owes (c : Thread nD τ) (0 : CellTallies nD τ sig Unit) W) := by
  show iprop(StableHlo.held (c.tc : Thread nD τ) bufs (W₂ m c) ∗ semVal (cell .ready c) 0 ∗ ∃ W, owes (c : Thread nD τ) (0 : CellTallies nD τ sig Unit) W) ⊢ _
  iintro ⟨Hh, Hz, HO⟩
  isplitr [HO]
  · isplitl [Hh] <;> iassumption
  iexact HO

end Cert.KernelIdeal.Swap

end
-- ==== Proof.LaunchKernelIdeal.lean ====
/-
  The launch of `KernelIdeal` on the four devices: every cell's invariant and every right to pay dealt to the
  device that uses it, and the run of the whole program from any memory with all counters at zero.
-/
module

public import proofs.«01_k».proof.Proof.RegionKernelIdeal

@[expose] public section

noncomputable section

namespace Cert.KernelIdeal.Swap

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-! ## The cells and the rights to pay -/

/-- A cell names its device and its role. -/
theorem cell_inj {k k' : Role} {c c' : Dev nD} (h : cell k c = cell k' c') : c = c' ∧ k = k' :=
  ⟨congrArg (fun g : GSem nD τ sig => g.1.1) h, Role.sem_inj (congrArg Prod.snd h)⟩

/-- The `ready` cells, device by device. -/
def readyEmb : Dev nD ↪ GSem nD τ sig := ⟨cell .ready, fun _ _ h => (cell_inj h).1⟩

/-- The role of each semaphore of the copy. -/
def copyRole : Fin 2 → Role
  | 0 => .sent
  | 1 => .landed

/-- The two are different. -/
theorem copyRole_inj : Function.Injective copyRole := by decide

/-- The copies' cells, device by device. -/
def copyEmb : Dev nD × Fin 2 ↪ GSem nD τ sig :=
  ⟨fun p => cell (copyRole p.2) p.1, fun _ _ h => Prod.ext (cell_inj h).1 (copyRole_inj (cell_inj h).2)⟩

/-- The rights to pay, one for each cell. -/
def payEmb : Dev nD × Role ↪ GSem nD τ sig × ℕ × Unit :=
  ⟨fun p => (cell p.2 p.1, 0, ()), fun _ _ h => Prod.ext (cell_inj (congrArg Prod.fst h)).1 (cell_inj (congrArg Prod.fst h)).2⟩

/-- The cells that are open from the launch on. -/
abbrev openCells : Finset (GSem nD τ sig) := Finset.univ.map readyEmb
/-- The cells that the kernel opens itself. -/
abbrev shutCells : Finset (GSem nD τ sig) := Finset.univ.map copyEmb
/-- All rights to pay. -/
abbrev pays : Finset (GSem nD τ sig × ℕ × Unit) := Finset.univ.map payEmb

/-- No cell is of both sorts. -/
theorem cells_apart : Disjoint openCells shutCells := by
  rw [Finset.disjoint_left]
  intro g h₁ h₂
  obtain ⟨c, -, rfl⟩ := Finset.mem_map.mp h₁
  obtain ⟨⟨c', k⟩, -, h⟩ := Finset.mem_map.mp h₂
  exact absurd (cell_inj h).2 ((by decide : ∀ k : Fin 2, copyRole k ≠ .ready) k)

/-- Every cell is of one sort. -/
theorem cell_listed (k : Role) (c : Dev nD) : cell k c ∈ openCells ∪ shutCells := by
  cases k with
  | ready => exact Finset.mem_union_left _ (Finset.mem_map_of_mem readyEmb (Finset.mem_univ c))
  | sent => exact Finset.mem_union_right _ (Finset.mem_map_of_mem copyEmb (Finset.mem_univ (c, (0 : Fin 2))))
  | landed => exact Finset.mem_union_right _ (Finset.mem_map_of_mem copyEmb (Finset.mem_univ (c, (1 : Fin 2))))

/-! ## What the launch deals -/

/-- The launch element: the pipeline's part and the talk's. -/
def u₀ : UU :=
  (initOf (Pipeline.cells (Pipeline.pin (pcfgs (F := F)) adm) staging_inj) (Pipeline.launchToks (Pipeline.pin (pcfgs (F := F)) adm) staging_inj),
    launchOf openCells shutCells pays)

/-- The talk's part, kept on device 0 until all devices are dealt their share at once. -/
def kept (c : Dev nD) : sProp 𝕄 := if c = 0 then BI.own (ER (launchOf openCells shutCells pays)) else iprop(emp)

omit [FloatOps F] in
/-- It is kept once. -/
theorem kept_all : bigSep Finset.univ (kept (F := F)) = BI.own (ER (launchOf openCells shutCells pays)) := by
  rw [bigSep_univ_at _ (0 : Dev nD), bigSep_congr (s := Finset.univ.erase (0 : Dev nD)) (Ψ := fun _ => (BI.emp : sProp 𝕄))
      fun c hc => by unfold kept; rw [if_neg (Finset.ne_of_mem_erase hc)]; rfl, BI.bigSep_emp_const]
  unfold kept; rw [if_pos rfl]
  exact BI.equiv_iff.mp sep_emp

/-- What every device may look up: all invariants, and that every `ready` cell is in round 0. -/
def shared (κ : GSem nD τ sig → ℕ) : sProp 𝕄 :=
  iprop((bigSep (openCells ∪ shutCells) fun g => cellInv ER (talk m) (κ g) g) ∗ bigSep openCells fun g => reached ER g 0)

/-- It may be looked up again and again. -/
instance shared_persistent (κ : GSem nD τ sig → ℕ) : BI.Persistent (shared m κ) := by unfold shared; infer_instance

/-- One invariant out of all. -/
theorem inv_of (κ : GSem nD τ sig → ℕ) (k : Role) (c : Dev nD) :
    (bigSep (openCells ∪ shutCells) fun g => (cellInv ER (talk m) (κ g) g : sProp 𝕄)) ⊢ cellInv ER (talk m) (κ (cell k c)) (cell k c) :=
  bigSep_elim (cell_listed k c)

omit [FloatOps F] in
/-- One round out of all. -/
theorem round_of (c : Dev nD) : (bigSep openCells fun g => (reached ER g 0 : sProp 𝕄)) ⊢ reached ER (cell .ready c) 0 :=
  bigSep_elim (Finset.mem_map_of_mem readyEmb (Finset.mem_univ c))

omit [FloatOps F] in
/-- What belongs to one device alone. -/
def owned (c : Dev nD) : sProp 𝕄 :=
  iprop(atPos ER (cell .ready c) 0 ∅ 0 ∗ (openTok ER (cell .sent c) ∗ openTok ER (cell .landed c)) ∗ dues (F := F) c)

/-- Both together are a device's part of the talk. -/
theorem closed_intro (κ : GSem nD τ sig → ℕ) (c : Dev nD) : iprop(shared m κ ∗ owned c) ⊢ iprop(∃ κ, closed m κ c) := by
  unfold shared owned closed invs
  iintro ⟨⟨#HI, #HR⟩, Hat, ⟨HoS, HoL⟩, Hd⟩
  iexists κ
  isplitr
  · isplitr; · iapply (inv_of m κ .ready c); iexact HI
    isplitr; · iapply (inv_of m κ .sent c); iexact HI
    isplitr; · iapply (inv_of m κ .landed c); iexact HI
    isplitr; · iapply (inv_of m κ .ready (mate c)); iexact HI
    iapply (inv_of m κ .landed (mate c)); iexact HI
  isplitl [Hat]; · iexact Hat
  isplitl [HoS]; · iexact HoS
  isplitl [HoL]; · iexact HoL
  isplitr; · iapply (round_of (F := F) (mate c)); iexact HR
  iexact Hd

omit [FloatOps F] in
/-- The rights to pay, dealt: each device pays its own `sent` cell and its mate's other two. -/
theorem deal_pays : bigSep pays (fun x => (dutyTok ER x.1 x.2.1 x.2.2 : sProp 𝕄)) ⊢ bigSep Finset.univ fun c : Dev nD => dues (F := F) c := by
  rw [bigSep_map, bigSep_univ_prod]
  show (bigSep Finset.univ fun c : Dev nD => bigSep Finset.univ fun k : Role => (dutyTok ER (cell k c) 0 () : sProp 𝕄)) ⊢ _
  rw [bigSep_congr (s := Finset.univ) (Ψ := fun c : Dev nD => (iprop(dutyTok ER (cell .ready c) 0 () ∗ dutyTok ER (cell .landed c) 0 () ∗ dutyTok ER (cell .sent c) 0 ()) : sProp 𝕄))
    fun c _ => bigSep_univ_eq_bigSepL [Role.ready, Role.landed, Role.sent] (by decide) (by decide) (fun k : Role => (dutyTok ER (cell k c) 0 () : sProp 𝕄))]
  unfold dues
  rw [bigSep_sep', bigSep_sep', bigSep_sep', bigSep_sep', bigSep_univ_equiv mates (fun c : Dev nD => (dutyTok ER (cell .ready c) 0 () : sProp 𝕄)),
    bigSep_univ_equiv mates (fun c : Dev nD => (dutyTok ER (cell .landed c) 0 () : sProp 𝕄))]
  exact BI.Entails.refl _

/-! ## The credit at launch -/

/-- One tally at one cell. -/
theorem tally_cell (k k' : Role) (c c' : Dev nD) (n : ℕ) :
    (tallyAt (cell k c) () n : CellTallies nD τ sig Unit) (cell k' c') () = if k = k' ∧ c = c' then n else 0 := by
  rw [tallyAt_apply]
  by_cases h : k = k' ∧ c = c'
  · rw [if_pos h, if_pos ⟨by rw [h.1, h.2], rfl⟩]
  · rw [if_neg h, if_neg fun h' => h ⟨(cell_inj h'.1).2.symm, (cell_inj h'.1).1.symm⟩]

/-- What device `d` owes to `c`'s cell of role `k`. -/
theorem owed_to (d c : Dev nD) (k : Role) (hk : k ≠ .sent) : owed₀ d (cell k c) () = if d = mate c then k.units else 0 := by
  unfold owed₀
  rw [Pi.add_apply, Finsupp.add_apply, tally_cell, tally_cell]
  have hm : mate d = c ↔ d = mate c := ⟨fun h => by rw [← h, mate_mate], fun h => by rw [h, mate_mate]⟩
  cases k with
  | sent => exact absurd rfl hk
  | ready => simp only [hm, reduceCtorEq, false_and, true_and, if_false, Nat.zero_add]; rfl
  | landed => simp only [hm, reduceCtorEq, false_and, true_and, if_false, Nat.add_zero]; rfl

/-- All of it is credit of `c`'s. -/
theorem credit_of (c : Dev nD) (k : Role) (hk : k ≠ .sent) :
    tallyOn (cell k c) (launchCredit (Pipeline.owing owed₀) 0 (cell k c)) = (tallyAt (cell k c) () k.units : CellTallies nD τ sig Unit) := by
  unfold tallyAt; refine congrArg _ (Finsupp.ext fun u => ?_); cases u
  rw [Pipeline.launchCredit_owing, Finsupp.single_eq_same, Finset.sum_congr rfl fun d _ => owed_to d c k hk,
    Finset.sum_ite_eq' Finset.univ (mate c) fun _ => k.units, if_pos (Finset.mem_univ _)]

omit [FloatOps F] in
/-- So a device starts with the credits it will wait for. -/
theorem credits (c : Dev nD) : (Pipeline.launchCred owed₀ c : sProp 𝕄) ⊢ awaits (F := F) c := by
  unfold Pipeline.launchCred awaits
  rw [bigSep_univ_at _ Role.ready.sem, show tallyOn ((c : Thread nD τ), Role.ready.sem) _ = _ from credit_of c .ready (by decide)]
  refine sep_mono_right ?_
  rw [← show tallyOn (cell .landed c) _ = tallyAt (cell .landed c) () N from credit_of c .landed (by decide)]
  exact bigSep_elim (Finset.mem_erase.mpr ⟨fun h => absurd (Role.sem_inj h) (by decide), Finset.mem_univ _⟩)

/-! ## The start -/

omit [FloatOps F] in
/-- The unscoped buffers at launch. -/
theorem launch_bufs (c : Dev nD) (W : Valuation τ sig (Elt F)) :
    (unscopedBufs c (fun b => W b) : sProp 𝕄) = StableHlo.held (c.tc : Thread nD τ) bufs W := by
  rw [held_bufs]
  unfold unscopedBufs
  rw [bigSep_eq_bigSepL_of_eq [main_arg0, main_v1, main_v2] (by decide) (by decide)]
  rfl

/-- The only unscoped semaphore is the barrier's. -/
theorem unscoped_sem : ∀ s : SemLoc sig, s.isScoped .tc = false → s = Role.ready.sem := by decide +kernel

omit [FloatOps F] in
/-- The unscoped counters at launch. -/
theorem launch_sems (c : Dev nD) : (unscopedSems0 c : sProp 𝕄) = semVal (cell .ready c) 0 := by
  unfold unscopedSems0
  rw [show (Finset.univ.filter fun s : SemLoc sig => ¬ s.isScoped .tc) = {Role.ready.sem} from by decide +kernel, BI.bigSep_singleton]

/-- What a device starts with besides the talk. -/
def apart (c : Dev nD) : sProp 𝕄 :=
  iprop(StableHlo.held (c.tc : Thread nD τ) bufs (W₀ m c) ∗ awaits c ∗ owes (c : Thread nD τ) (owed₀ c) ∅ ∗ ∃ r, prngReg c r)

/-- All parts together are the program's first state. -/
theorem first_intro (κ : GSem nD τ sig → ℕ) (c : Dev nD) : iprop(shared m κ ∗ (owned c ∗ apart m c)) ⊢ first m c := by
  unfold apart first brings
  iintro ⟨#HS, Hl, Hh, Haw, HO, Hp⟩
  isplitl [Hh]; · iexact Hh
  isplitl [Hp]; · iexact Hp
  isplitr [HO]
  · isplitl [Hl]
    · iapply (closed_intro m κ c)
      isplitr; · iexact HS
      iexact Hl
    iexact Haw
  iexists ∅; iexact HO

/-- What the machine gives one device at launch, sorted. -/
theorem sort_launch (c : Dev nD) :
    iprop(unscopedBufs c (fun b => m ((c.tc : Thread nD τ).loc b)) ∗ unscopedSems0 c
        ∗ owes (c.tc : Thread nD τ) (owed₀ c) ∅ ∗ Pipeline.launchCred owed₀ c ∗ prngReg c (ρ c) ∗ kept c)
      ⊢ (iprop(apart m c ∗ (semVal (cell .ready c) 0 ∗ kept c)) : sProp 𝕄) := by
  rw [show unscopedBufs c (fun b => m ((c.tc : Thread nD τ).loc b)) = StableHlo.held (c.tc : Thread nD τ) bufs (W₀ m c) from launch_bufs c (W₀ m c),
    launch_sems]
  unfold apart
  iintro ⟨Hh, Hz, HO, Hcr, Hp, HG⟩
  ihave Haw := (credits (F := F) c) $$ Hcr
  isplitl [Hh Haw HO Hp]
  · isplitl [Hh]; · iexact Hh
    isplitl [Haw]; · iexact Haw
    isplitl [HO]; · iexact HO
    iexists (ρ c); iexact Hp
  isplitl [Hz] <;> iassumption

/-- All devices' first states, out of what the machine gives at launch. -/
theorem start :
    iprop((bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ kept c)) ∗ levAts L lv)
      ⊢ (|={Set.univ}=> bigSep Finset.univ (first m) : sProp 𝕄) := by
  have hz : bigSep Finset.univ (fun c : Dev nD => (semVal (cell .ready c) 0 : sProp 𝕄)) ⊢ bigSep openCells (fun g => (semVal g 0 : sProp 𝕄)) :=
    Entails.of_eq (bigSep_map (s := Finset.univ) readyEmb (Φ := fun g : GSem nD τ sig => (semVal g 0 : sProp 𝕄))).symm
  have hat : bigSep openCells (fun g => (atPos ER g 0 ∅ 0 : sProp 𝕄)) ⊢ bigSep Finset.univ (fun c : Dev nD => (atPos ER (cell .ready c) 0 ∅ 0 : sProp 𝕄)) :=
    Entails.of_eq (bigSep_map (s := Finset.univ) readyEmb (Φ := fun g : GSem nD τ sig => (atPos ER g 0 ∅ 0 : sProp 𝕄)))
  have hshut : bigSep shutCells (fun g => (openTok ER g : sProp 𝕄))
      ⊢ bigSep Finset.univ (fun c : Dev nD => iprop(openTok ER (cell .sent c) ∗ openTok ER (cell .landed c))) :=
    Entails.of_eq (by
      rw [bigSep_map, bigSep_univ_prod]
      exact bigSep_congr fun c _ => BI.bigSep_fin_two (fun k : Fin 2 => (openTok ER (cell (copyRole k) c) : sProp 𝕄)))
  have hsort : (bigSep Finset.univ fun c : Dev nD => iprop(unscopedBufs c (fun b => m ((c.tc : Thread nD τ).loc b)) ∗ unscopedSems0 c
          ∗ owes (c.tc : Thread nD τ) (owed₀ c) ∅ ∗ Pipeline.launchCred owed₀ c ∗ prngReg c (ρ c) ∗ kept c))
      ⊢ (iprop(bigSep Finset.univ (apart m) ∗ bigSep Finset.univ (fun c : Dev nD => semVal (cell .ready c) 0) ∗ bigSep Finset.univ kept) : sProp 𝕄) := by
    rw [← bigSep_sep', ← bigSep_sep']
    exact bigSep_mono fun c _ => sort_launch m ρ c
  have hgather : (iprop((bigSep Finset.univ fun c : Dev nD => atPos ER (cell .ready c) 0 ∅ 0)
          ∗ (bigSep Finset.univ fun c : Dev nD => iprop(openTok ER (cell .sent c) ∗ openTok ER (cell .landed c)))
          ∗ (bigSep Finset.univ fun c : Dev nD => dues (F := F) c) ∗ bigSep Finset.univ (apart m)) : sProp 𝕄)
      ⊢ bigSep Finset.univ fun c : Dev nD => iprop(owned c ∗ apart m c) := by
    unfold owned
    simp only [bigSep_sep']
    iintro ⟨H1, H2, H3, H4⟩
    isplitr [H4]
    · isplitl [H1]; · iexact H1
      isplitl [H2] <;> iassumption
    iexact H4
  iintro ⟨H, -⟩
  ihave H := hsort $$ H
  icases H with ⟨HA, Hz, HG⟩
  have hkept : bigSep Finset.univ (kept (F := F)) ⊢ BI.own (ER (launchOf openCells shutCells pays)) := Entails.of_eq kept_all
  ihave Hu := hkept $$ HG
  imod (Rounds.fund_launch ER (talk m) cells_apart (fun g _ h => h) pays) $$ [Hz Hu] with ⟨%κ, -, #Hinv, #Hr, Hat, Hshut, Hpay⟩
  · isplitl [Hz]
    · iapply hz $$ Hz
    · iexact Hu
  imodintro
  iapply (bigSep_with_persistent (R := shared m κ) (Φ := fun c => iprop(owned c ∗ apart m c)) fun c _ => first_intro m κ c)
  isplitr
  · unfold shared
    isplitr; · iexact Hinv
    iexact Hr
  iapply hgather
  isplitl [Hat]; · iapply hat $$ Hat
  isplitl [Hshut]; · iapply hshut $$ Hshut
  isplitl [Hpay]; · iapply (deal_pays (F := F)) $$ Hpay
  iexact HA

/-! ## The run -/

/-- The reshape leaves the argument alone. -/
theorem W₂_arg (c : Dev nD) : W₂ m c (Proc.devRef .tc main_arg0) = m (c, Proc.devRef .tc main_arg0) := by
  show StableHlo.after hostOps1 (W₁ m c) (Proc.devRef .tc main_arg0) = _
  rw [StableHlo.after_cons, StableHlo.after_nil, StableHlo.reshape_result_ne _ _ _ _ _ _ _ (by decide), W₁_arg]

/-- What device `c` ends with: the returned block, reshaped to a column. -/
def column (c : Dev nD) : S4096x1.Idx → Elt F .f32 := shapeCast S4096x1 (returns m c) shapeCasts_S8x512_S4096x1

/-- The reshape's result. -/
theorem W₂_res (c : Dev nD) : W₂ m c (Proc.devRef .tc main_v2) = column m c := by
  show StableHlo.after hostOps1 (W₁ m c) (Proc.devRef .tc main_v2) = _
  rw [StableHlo.after_cons, StableHlo.after_nil, StableHlo.reshape_result, W₁_out]
  rfl

set_option backward.isDefEq.respectTransparency.types false in
/-- From any memory with all counters at zero the program ends on all four devices, with the argument as it was, the
    result a column of the returned block, and every counter at zero. -/
theorem run_main : θ_run defs (onTc (τ := τ) (main (F := F))) ⟨m, fun _ => 0, ρ⟩
    (fun r => (∀ c : Dev nD, r.2.mem ((c.tc : Thread nD τ).loc main_v2) = column m c
        ∧ r.2.mem ((c.tc : Thread nD τ).loc main_arg0) = m ((c.tc : Thread nD τ).loc main_arg0)) ∧ r.2.sem = fun _ => 0) :=
  Pipeline.θ_run_regions_kit_sems (pcfgs (F := F)) adm (pdats m) () staging_inj EP defs₀ 𝒱₀ L lv m ρ main (parts m)
    (fun c Q => by rw [main_parts m c])
    (by simp only [parts, Pipeline.Seg.pipes_host, Pipeline.Seg.pipes_region, Pipeline.Seg.pipes_nil]; decide)
    (O₀ := owed₀) (hL := L_of_ne) (G := kept) (u₀ := u₀ (F := F))
    (hu₀ := by
      unfold u₀
      iintro Hu
      ihave H := (ownU_pair _ _) $$ Hu
      icases H with ⟨HP, HX⟩
      imodintro
      isplitl [HP]; · iexact HP
      rw [kept_all]; iexact HX)
    (T₀ := first m) (Tₙ := final m)
    (hch := ⟨first_region m, region_after m, after_final m⟩)
    (hinit := start m ρ)
    (QY := fun c s => (s.mem ((c.tc : Thread nD τ).loc main_v2) = column m c
      ∧ s.mem ((c.tc : Thread nD τ).loc main_arg0) = m ((c.tc : Thread nD τ).loc main_arg0)) ∧ s.sem (cell .ready c) = 0)
    (hfin := fun c s' => by
      dsimp only [final]
      rw [held_bufs, W₂_arg, W₂_res]
      iintro ⟨⟨⟨Ha, -, Hr⟩, Hz⟩, HSI⟩
      icombine HSI Ha gives %ha
      icombine HSI Hr gives %hr
      icombine HSI Hz gives %hz
      imodintro
      isplitr
      · ipureintro
        exact ⟨⟨Buf.eq_of_forall_mem_univ hr, Buf.eq_of_forall_mem_univ ha⟩, by simpa using hz⟩
      iexact HSI)
    (hQ := fun s h hs => ⟨fun c => (h c).1,
      sem_eq_zero hs fun c sm hsm => by
        obtain rfl := unscoped_sem sm hsm
        exact (h c).2⟩)

end Cert.KernelIdeal.Swap

end
-- ==== Proof.RowMaxima.lean ====
/-
  The values, over the extended reals: what each device ends with is its block of the reference's column of row maxima.
  A maximum is compared with another by the numbers that bound it from above, so the order in which the strips, the lanes
  and the two halves of a row are folded plays no part.
-/
module

public import proofs.«01_k».proof.Defs
public import proofs.«01_k».proof.Proof.LaunchKernelIdeal
public import proofs.«01_k».proof.Proof.Gen.ReferenceIdeal.Run
public import Idealize.ShloMosaic.Lib.Pointwise
public import Idealize.ShloMosaic.Lib.LayoutAt

@[expose] public section

set_option maxRecDepth 16384

noncomputable section

namespace Cert.RowMaxima

open Cert.KernelIdeal Cert.KernelIdeal.Gen Cert.KernelIdeal.Swap
open Idealize.ShloMosaic Idealize.ShloMosaic.TcCoe Idealize.ShloMosaic.Pointwise Idealize.SL.Sem

/-- What every maximum starts from. -/
abbrev start : Ideal .f32 := FloatOps.ofBits .f32 0xFF800000#32

/-- Row `512 * j + l` of a device's block, for place `(j, l)` of the packed block. -/
abbrev rowOf (j : Fin 8) (l : Fin 512) : Fin 4096 := ⟨512 * j.val + l.val, by omega⟩

/-- A strip is read at its own columns of the block. -/
theorem strip_at (x : S4096x1024.Idx → Ideal .f32) (o : ℕ) (h : ∀ a, (![0, o] : Fin 2 → ℕ) a + S4096x128.size a ≤ S4096x1024.size a)
    (r : Fin 4096) (a : Fin 128) (k : Fin 1024) (hk : k.val = o + a.val) : strip (F := Ideal) x o h (ix2 r a) = x (ix2 r k) := by
  unfold strip
  rw [View.readAt_apply]
  show x _ = _
  refine congrArg x (funext fun b => ?_)
  fin_cases b
  · exact Fin.ext (show 0 + 1 * r.val = r.val by omega)
  · exact Fin.ext (show o + 1 * a.val = k.val by omega)

/-- Row `j` of the packed block holds, at `l`, the maximum over the lanes of row `512 * j + l`. -/
theorem packedRow_at (x : S4096x1024.Idx → Ideal .f32) (j : Fin 8) (l : Fin 512) :
    packedRow (F := Ideal) x j (ix2 0 l)
      = Finset.univ.fold max start fun a : Fin 128 => k0_pay2 (seven (F := Ideal) x) (eighth (F := Ideal) x) (ix2 (rowOf j l) a) := by
  have e : ∀ (n : ℕ) (hn : n < 4096), n = 512 * j.val + l.val → (⟨n, hn⟩ : Fin 4096) = rowOf j l := fun n hn h => Fin.ext h
  fin_cases j <;> dsimp only [packedRow, k0_pay3, k0_pay4, k0_pay5, k0_pay6, k0_pay7, k0_pay8, k0_pay9, k0_pay10, k0_pay11] <;> pointwise <;>
    exact congrArg (fun f => Finset.fold max _ f Finset.univ) (funext fun a => congrArg (fun r => k0_pay2 _ _ (ix2 r a)) (e _ _ (by simp)))

/-- A maximum over the lanes of the eight strips is bounded by what bounds the whole row of the block. -/
theorem lanes_le (x : S4096x1024.Idx → Ideal .f32) (r : Fin 4096) (a : Fin 128) (b : Ideal .f32) :
    k0_pay2 (seven (F := Ideal) x) (eighth (F := Ideal) x) (ix2 r a) ≤ b
      ↔ ∀ n : Fin 8, x (ix2 r ⟨128 * n.val + a.val, by omega⟩) ≤ b := by
  unfold k0_pay2 seven k0_pay1 eighth
  pointwise
  simp only [max_le_iff]
  refine ⟨fun h n => ?_, fun h => ?_⟩
  · obtain ⟨⟨⟨⟨⟨⟨⟨h0, h1⟩, h2⟩, h3⟩, h4⟩, h5⟩, h6⟩, h7⟩ := h
    fin_cases n
    · exact (strip_at x 0 _ r a _ rfl).ge.trans h0
    · exact (strip_at x 128 _ r a _ rfl).ge.trans h1
    · exact (strip_at x 256 _ r a _ rfl).ge.trans h2
    · exact (strip_at x 384 _ r a _ rfl).ge.trans h3
    · exact (strip_at x 512 _ r a _ rfl).ge.trans h4
    · exact (strip_at x 640 _ r a _ rfl).ge.trans h5
    · exact (strip_at x 768 _ r a _ rfl).ge.trans h6
    · exact (strip_at x 896 _ r a _ rfl).ge.trans h7
  · exact ⟨⟨⟨⟨⟨⟨⟨(strip_at x 0 _ r a _ rfl).le.trans (h 0), (strip_at x 128 _ r a _ rfl).le.trans (h 1)⟩,
      (strip_at x 256 _ r a _ rfl).le.trans (h 2)⟩, (strip_at x 384 _ r a _ rfl).le.trans (h 3)⟩,
      (strip_at x 512 _ r a _ rfl).le.trans (h 4)⟩, (strip_at x 640 _ r a _ rfl).le.trans (h 5)⟩,
      (strip_at x 768 _ r a _ rfl).le.trans (h 6)⟩, (strip_at x 896 _ r a _ rfl).le.trans (h 7)⟩

/-- A place of the packed block is bounded by what bounds the start and its row of the block. -/
theorem packed_le (x : S4096x1024.Idx → Ideal .f32) (j : Fin 8) (l : Fin 512) (b : Ideal .f32) :
    packed (F := Ideal) x (ix2 j l) ≤ b ↔ start ≤ b ∧ ∀ k : Fin 1024, x (ix2 (rowOf j l) k) ≤ b := by
  have hr : inRow (ix2 j l) = ix2 0 l := by funext a; fin_cases a <;> rfl
  show packedRow (F := Ideal) x j (inRow (ix2 j l)) ≤ b ↔ _
  rw [hr, packedRow_at, Finset.fold_max_le]
  refine and_congr Iff.rfl ⟨fun h k => ?_, fun h a _ => (lanes_le x _ a b).mpr fun n => h _⟩
  have hk := (lanes_le x (rowOf j l) ⟨k.val % 128, by omega⟩ b).mp (h _ (Finset.mem_univ _)) ⟨k.val / 128, by omega⟩
  have e : (⟨128 * (k.val / 128) + k.val % 128, by omega⟩ : Fin 1024) = k := Fin.ext (by show 128 * (k.val / 128) + k.val % 128 = k.val; omega)
  rwa [e] at hk

variable (m : (ℓ : Loc nD τ sig) → Buf (Elt Ideal) ℓ)

/-- Device `c`'s block of the input, as it lies in memory at the start. -/
abbrev input (c : Dev nD) : S4096x1024.Idx → Ideal .f32 := m ((c.tc : Thread nD τ).loc main_arg0)

/-- The staged block is the whole argument. -/
theorem staged_eq (c : Dev nD) : staged (F := Ideal) m c = input m c := by
  funext i
  unfold staged
  rw [View.read_apply]
  show m _ _ = m _ _
  refine congrArg (m ((c.tc : Thread nD τ).loc main_arg0)) (funext fun b => ?_)
  fin_cases b
  · refine Fin.ext ?_
    show 0 + 1 * (i 0).val = (i 0).val
    omega
  · refine Fin.ext ?_
    show 0 + 1 * (i 1).val = (i 1).val
    omega

/-- A place of a device's result is bounded by what bounds the start, its row of the device's block and the same row of the
    mate's. -/
theorem column_le (c : Dev nD) (i : Fin 4096) (b : Ideal .f32) :
    column (F := Ideal) m c (ix2 i 0) ≤ b
      ↔ start ≤ b ∧ (∀ k : Fin 1024, input m c (ix2 i k) ≤ b) ∧ ∀ k : Fin 1024, input m (mate c) (ix2 i k) ≤ b := by
  have hi : rowOf ⟨i.val / 512, by omega⟩ ⟨i.val % 512, by omega⟩ = i := Fin.ext (by show 512 * (i.val / 512) + i.val % 512 = i.val; omega)
  have hc : column (F := Ideal) m c (ix2 i 0)
      = max (packed (F := Ideal) (input m c) (ix2 ⟨i.val / 512, by omega⟩ ⟨i.val % 512, by omega⟩))
          (packed (F := Ideal) (input m (mate c)) (ix2 ⟨i.val / 512, by omega⟩ ⟨i.val % 512, by omega⟩)) := by
    unfold column returns sends k0_pay12
    rw [staged_eq, staged_eq]
    pointwise
  rw [hc, max_le_iff, packed_le, packed_le, hi]
  tauto

/-- The reference's column of row maxima of `X`. -/
abbrev rowMax (X : Cert.ReferenceIdeal.S8192x2048.Idx → Ideal .f32) : Cert.ReferenceIdeal.S8192x1.Idx → Ideal .f32 :=
  broadcastInDim Cert.ReferenceIdeal.S8192x1 ![0] Cert.ReferenceIdeal.Gen.bcast_S8192_S8192x1_0
    (Host.reduce FloatOps.maximumf X (constant Cert.ReferenceIdeal.S_ .f32 0xFF800000#32)
      Cert.ReferenceIdeal.Gen.reducesTo_S8192x2048_S8192_d1 Cert.ReferenceIdeal.Gen.h_S_)

/-- A place of the reference's result is bounded by what bounds the start and its row. -/
theorem rowMax_le (X : Cert.ReferenceIdeal.S8192x2048.Idx → Ideal .f32) (i : Fin 8192) (b : Ideal .f32) :
    rowMax X (ix2 i 0) ≤ b ↔ start ≤ b ∧ ∀ k : Fin 2048, X (ix2 i k) ≤ b := by
  have e : rowMax X (ix2 i 0) = Finset.univ.fold max start fun k : Fin 2048 => X (ix2 i k) := by
    unfold rowMax
    pointwise
  rw [e, Finset.fold_max_le]
  simp

/-- A place of a device's block of the input, in the whole input: the mesh's row gives the upper or the lower half, its
    column the left or the right. -/
theorem input_block_at (X : Cert.ReferenceIdeal.S8192x2048.Idx → Ideal .f32) (c : Dev nD) (i : Fin 4096) (k : Fin 1024) :
    Layout.blockN (⟨2, ![4096, 1024]⟩ : Shape) ⟨2, ![8192, 2048]⟩ (Layout.meshBlock [2, 2] ![[0], [1]] c) X (by decide) (ix2 i k)
      = X (ix2 ⟨4096 * (c.val / 2) + i.val, by have h : c.val < 4 := c.isLt; omega⟩ ⟨1024 * (c.val % 2) + k.val, by omega⟩) := by
  fin_cases c <;> shard_ext

/-- A place of a device's block of the result, in the whole result: the mesh's row gives the upper or the lower half. -/
theorem result_block_at (Y : Cert.ReferenceIdeal.S8192x1.Idx → Ideal .f32) (c : Dev nD) (i : Fin 4096) :
    Layout.blockN (⟨2, ![4096, 1]⟩ : Shape) ⟨2, ![8192, 1]⟩ (Layout.meshBlock [2, 2] ![[0], []] c) Y (by decide) (ix2 i 0)
      = Y (ix2 ⟨4096 * (c.val / 2) + i.val, by have h : c.val < 4 := c.isLt; omega⟩ 0) := by
  fin_cases c <;> shard_ext

/-- If each device starts with its block of `X`, it ends with its block of the reference's column for `X`. -/
theorem column_eq (X : Cert.ReferenceIdeal.S8192x2048.Idx → Ideal .f32)
    (hX : ∀ c : Dev nD, input m c
      = Layout.blockN (⟨2, ![4096, 1024]⟩ : Shape) ⟨2, ![8192, 2048]⟩ (Layout.meshBlock [2, 2] ![[0], [1]] c) X (by decide)) (c : Dev nD) :
    column (F := Ideal) m c
      = Layout.blockN (⟨2, ![4096, 1]⟩ : Shape) ⟨2, ![8192, 1]⟩ (Layout.meshBlock [2, 2] ![[0], []] c) (rowMax X) (by decide) := by
  funext y
  obtain ⟨i, rfl⟩ : ∃ i : Fin 4096, y = ix2 i 0 := ⟨y 0, by rw [eq_ix2 y]; exact congrArg (ix2 (y 0)) (Subsingleton.elim (α := Fin 1) _ _)⟩
  have hc : c.val < 4 := c.isLt
  have hm : (mate c).val = 2 * (c.val / 2) + 1 - c.val % 2 := rfl
  refine eq_of_forall_ge_iff fun b => ?_
  rw [result_block_at, rowMax_le, column_le, hX c, hX (mate c)]
  simp only [input_block_at]
  refine and_congr Iff.rfl ⟨fun h k => ?_, fun h => ⟨fun k => h _, fun k => ?_⟩⟩
  · by_cases hk : k.val / 1024 = c.val % 2
    · have e := h.1 ⟨k.val % 1024, by omega⟩
      have ek : (⟨1024 * (c.val % 2) + k.val % 1024, by omega⟩ : Fin 2048) = k := Fin.ext (by show 1024 * (c.val % 2) + k.val % 1024 = k.val; omega)
      rwa [ek] at e
    · have e := h.2 ⟨k.val % 1024, by omega⟩
      have ek : (⟨1024 * ((mate c).val % 2) + k.val % 1024, by omega⟩ : Fin 2048) = k :=
        Fin.ext (by show 1024 * ((mate c).val % 2) + k.val % 1024 = k.val; omega)
      have er : (⟨4096 * ((mate c).val / 2) + i.val, by omega⟩ : Fin 8192) = ⟨4096 * (c.val / 2) + i.val, by omega⟩ :=
        Fin.ext (by show 4096 * ((mate c).val / 2) + i.val = 4096 * (c.val / 2) + i.val; omega)
      rwa [ek, er] at e
  · have er : (⟨4096 * ((mate c).val / 2) + i.val, by omega⟩ : Fin 8192) = ⟨4096 * (c.val / 2) + i.val, by omega⟩ :=
      Fin.ext (by show 4096 * ((mate c).val / 2) + i.val = 4096 * (c.val / 2) + i.val; omega)
    rw [er]
    exact h _

end Cert.RowMaxima

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.LaunchKernel
public import proofs.«01_k».proof.Proof.LaunchKernelIdeal
public import proofs.«01_k».proof.Proof.RowMaxima
public import Idealize.ShloMosaic.Adequacy
public import Idealize.ShloMosaic.Init

@[expose] public section

noncomputable section

namespace Cert.Proof

open Idealize.ShloMosaic Idealize.SL.Sem Cert.Kernel

/-- The kernel's frame: its run, with the result's value dropped. -/
theorem kernel_frame : Cert.quiescent_Kernel := fun m ρ _ =>
  (θ_run Cert.Kernel.defs _ _).mono (fun _ h => ⟨fun c => (h.1 c).2, h.2⟩) (Cert.Kernel.Swap.run_main m ρ)

/-- The frame of the kernel over the extended reals, likewise. -/
theorem kernelIdeal_frame : Cert.quiescent_KernelIdeal := fun m ρ _ =>
  (θ_run Cert.KernelIdeal.defs _ _).mono (fun _ h => ⟨fun c => (h.1 c).2, h.2⟩) (Cert.KernelIdeal.Swap.run_main m ρ)

/-- The reference's frame: its run, with the result's value dropped; it declares no counter. -/
theorem reference_frame : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run m ρ)

/-- The value claim: from matching inputs every device ends with its block of the reference's column of row maxima. -/
theorem value : Cert.algebraic_KernelIdeal_ReferenceIdeal := by
  intro m ρ m' ρ' _ hX
  refine ⟨Cert.RowMaxima.rowMax _, (θ_run Cert.KernelIdeal.defs _ _).mono
    (fun _ h c => ⟨(h.1 c).1.trans (Cert.RowMaxima.column_eq m _ hX c), (h.1 c).2⟩) (Cert.KernelIdeal.Swap.run_main m ρ), ?_⟩
  exact (θ_run Cert.ReferenceIdeal.defs _ _).mono (fun _ h => h 0) (Cert.ReferenceIdeal.Value.run m' ρ')

/-- Everything that is claimed. -/
theorem claim : Cert.Claim :=
  ⟨Cert.Kernel.Gen.facts, Cert.KernelIdeal.Gen.facts, Cert.ReferenceIdeal.Gen.facts, kernel_frame, kernelIdeal_frame, reference_frame,
    trivial, value⟩

end Cert.Proof

end
